-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "inv_scale" .f32 0x413504F3#32 ((Real.sqrt 128 : ℝ) : EReal)
  ∧ IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_written_rows [hKernel3Ideal : Cert.Kernel3Ideal.Facts] [hReference3Ideal : Cert.Reference3Ideal.Facts] [hOn_written_rows : Cert.On_written_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![2, 16400, 2048]⟩ : Shape).Idx, (Cert.On_written_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![2, 16400, 2048]⟩ : Shape).Idx, (Cert.On_written_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v30) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_on_mixed_rows [hKernel4Ideal : Cert.Kernel4Ideal.Facts] [hReference4Ideal : Cert.Reference4Ideal.Facts] [hOn_mixed_rows : Cert.On_mixed_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨3, ![2, 16400, 2048]⟩ : Shape).Idx, (Cert.On_mixed_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) i = 1#1 → r.2.mem ((c.tc : Thread Cert.Kernel4Ideal.nD Cert.Kernel4Ideal.τ).loc Cert.Kernel4Ideal.main_v0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨3, ![2, 16400, 2048]⟩ : Shape).Idx, (Cert.On_mixed_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) i = 1#1 → r.2.mem ((c.tc : Thread Cert.Reference4Ideal.nD Cert.Reference4Ideal.τ).loc Cert.Reference4Ideal.main_v30) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_on_projected_rows [hKernel5Ideal : Cert.Kernel5Ideal.Facts] [hReference5Ideal : Cert.Reference5Ideal.Facts] [hOn_projected_rows : Cert.On_projected_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨3, ![2, 16400, 3072]⟩ : Shape).Idx, (Cert.On_projected_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 i = 1#1 → r.2.mem ((c.tc : Thread Cert.Kernel5Ideal.nD Cert.Kernel5Ideal.τ).loc Cert.Kernel5Ideal.main_v7_0) i = v0 c i)
          ∧ (∀ i : (⟨4, ![2, 2, 16400, 1024]⟩ : Shape).Idx, (Cert.On_projected_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 i = 1#1 → r.2.mem ((c.tc : Thread Cert.Kernel5Ideal.nD Cert.Kernel5Ideal.τ).loc Cert.Kernel5Ideal.main_v7_1) i = v1 c i)
          ∧ (∀ i : (⟨3, ![2, 16400, 2048]⟩ : Shape).Idx, (Cert.On_projected_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2 i = 1#1 → r.2.mem ((c.tc : Thread Cert.Kernel5Ideal.nD Cert.Kernel5Ideal.τ).loc Cert.Kernel5Ideal.main_v7_2) i = v2 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨3, ![2, 16400, 3072]⟩ : Shape).Idx, (Cert.On_projected_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 i = 1#1 → r.2.mem ((c.tc : Thread Cert.Reference5Ideal.nD Cert.Reference5Ideal.τ).loc Cert.Reference5Ideal.main_v72) i = v0 c i)
          ∧ (∀ i : (⟨4, ![2, 2, 16400, 1024]⟩ : Shape).Idx, (Cert.On_projected_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 i = 1#1 → r.2.mem ((c.tc : Thread Cert.Reference5Ideal.nD Cert.Reference5Ideal.τ).loc Cert.Reference5Ideal.main_v73) i = v1 c i)
          ∧ (∀ i : (⟨3, ![2, 16400, 2048]⟩ : Shape).Idx, (Cert.On_projected_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2 i = 1#1 → r.2.mem ((c.tc : Thread Cert.Reference5Ideal.nD Cert.Reference5Ideal.τ).loc Cert.Reference5Ideal.main_v74) i = v2 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hOn_written_rows : Cert.On_written_rows.Facts) (hOn_mixed_rows : Cert.On_mixed_rows.Facts) (hOn_projected_rows : Cert.On_projected_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_written_rows (hKernel3Ideal := hKernel3Ideal) (hReference3Ideal := hReference3Ideal) (hOn_written_rows := hOn_written_rows)
    ∧ preserves_Kernel4_Kernel4Ideal
    ∧ algebraic_Kernel4Ideal_Reference4Ideal_on_mixed_rows (hKernel4Ideal := hKernel4Ideal) (hReference4Ideal := hReference4Ideal) (hOn_mixed_rows := hOn_mixed_rows)
    ∧ preserves_Kernel5_Kernel5Ideal
    ∧ algebraic_Kernel5Ideal_Reference5Ideal_on_projected_rows (hKernel5Ideal := hKernel5Ideal) (hReference5Ideal := hReference5Ideal) (hOn_projected_rows := hOn_projected_rows)
-- ==== On_mixed_rows.lean ====
abbrev S2x16400x2048 : Shape := ⟨3, ![2, 16400, 2048]⟩
abbrev S2x16400x1024 : Shape := ⟨3, ![2, 16400, 1024]⟩
abbrev S2x2048x2048 : Shape := ⟨3, ![2, 2048, 2048]⟩
abbrev S2x1024x2048 : Shape := ⟨3, ![2, 1024, 2048]⟩
abbrev S2x2048x4096 : Shape := ⟨3, ![2, 2048, 4096]⟩
abbrev S_ : Shape := ⟨0, ![]⟩

class Facts : Prop where
  bcast_S_S2x16400x2048 : S_.BroadcastsInDim S2x16400x2048 (![] : Fin 0 → Fin S2x16400x2048.rank)

variable [Facts]

def fn {F : FTy → Type} [FloatOps F] (main_arg0 : FVec F S2x16400x2048 .f32) (main_arg1 : FVec F S2x16400x2048 .bf16) (main_arg2 : FVec F S2x16400x2048 .bf16) (main_arg3 : FVec F S2x16400x1024 .bf16) (main_arg4 : FVec F S2x2048x2048 .bf16) (main_arg5 : FVec F S2x1024x2048 .bf16) (main_arg6 : FVec F S2x2048x4096 .bf16) (main_arg7 : FVec F S2x2048x2048 .bf16) : IVec S2x16400x2048 1 :=
  let main_v0 : IVec S2x16400x2048 32 := iotaInDim S2x16400x2048 32 1
  let main_c : IVec S_ 32 := constantI S_ 32 16384#32
  let main_v1 : IVec S2x16400x2048 32 := broadcastInDim S2x16400x2048 ![] bcast_S_S2x16400x2048 main_c
  let main_v2 : IVec S2x16400x2048 1 := cmpi .slt main_v0 main_v1
  main_v2
-- ==== On_projected_rows.lean ====
abbrev S2x16400x2048 : Shape := ⟨3, ![2, 16400, 2048]⟩
abbrev S1x2048 : Shape := ⟨2, ![1, 2048]⟩
abbrev S2x2048x4096 : Shape := ⟨3, ![2, 2048, 4096]⟩
abbrev S16400x16 : Shape := ⟨2, ![16400, 16]⟩
abbrev S128x256 : Shape := ⟨2, ![128, 256]⟩
abbrev S2x16400x3072 : Shape := ⟨3, ![2, 16400, 3072]⟩
abbrev S_ : Shape := ⟨0, ![]⟩
abbrev S2x2x16400x1024 : Shape := ⟨4, ![2, 2, 16400, 1024]⟩

class Facts : Prop where
  bcast_S_S2x16400x3072 : S_.BroadcastsInDim S2x16400x3072 (![] : Fin 0 → Fin S2x16400x3072.rank)
  bcast_S_S2x2x16400x1024 : S_.BroadcastsInDim S2x2x16400x1024 (![] : Fin 0 → Fin S2x2x16400x1024.rank)
  bcast_S_S2x16400x2048 : S_.BroadcastsInDim S2x16400x2048 (![] : Fin 0 → Fin S2x16400x2048.rank)

variable [Facts]

def fn {F : FTy → Type} [FloatOps F] (main_arg0 : FVec F S2x16400x2048 .f32) (main_arg1 : FVec F S1x2048 .f32) (main_arg2 : FVec F S2x2048x4096 .bf16) (main_arg3 : FVec F S16400x16 .f32) (main_arg4 : FVec F S16400x16 .f32) (main_arg5 : FVec F S128x256 .bf16) : IVec S2x16400x3072 1 × IVec S2x2x16400x1024 1 × IVec S2x16400x2048 1 :=
  let main_v0 : IVec S2x16400x3072 32 := iotaInDim S2x16400x3072 32 1
  let main_c : IVec S_ 32 := constantI S_ 32 16384#32
  let main_v1 : IVec S2x16400x3072 32 := broadcastInDim S2x16400x3072 ![] bcast_S_S2x16400x3072 main_c
  let main_v2 : IVec S2x16400x3072 1 := cmpi .slt main_v0 main_v1
  let main_v3 : IVec S2x2x16400x1024 32 := iotaInDim S2x2x16400x1024 32 2
  let main_c_0 : IVec S_ 32 := constantI S_ 32 16384#32
  let main_v4 : IVec S2x2x16400x1024 32 := broadcastInDim S2x2x16400x1024 ![] bcast_S_S2x2x16400x1024 main_c_0
  let main_v5 : IVec S2x2x16400x1024 1 := cmpi .slt main_v3 main_v4
  let main_v6 : IVec S2x16400x2048 32 := iotaInDim S2x16400x2048 32 1
  let main_c_1 : IVec S_ 32 := constantI S_ 32 16384#32
  let main_v7 : IVec S2x16400x2048 32 := broadcastInDim S2x16400x2048 ![] bcast_S_S2x16400x2048 main_c_1
  let main_v8 : IVec S2x16400x2048 1 := cmpi .slt main_v6 main_v7
  (main_v2, main_v5, main_v8)
-- ==== On_written_rows.lean ====
abbrev S2x16400x2048 : Shape := ⟨3, ![2, 16400, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩

class Facts : Prop where
  bcast_S_S2x16400x2048 : S_.BroadcastsInDim S2x16400x2048 (![] : Fin 0 → Fin S2x16400x2048.rank)

variable [Facts]

def fn {F : FTy → Type} [FloatOps F] (main_arg0 : FVec F S2x16400x2048 .f32) (main_arg1 : FVec F S1x2048 .f32) (main_arg2 : FVec F S2x2048x5632 .bf16) (main_arg3 : FVec F S2x2048x5632 .bf16) (main_arg4 : FVec F S2x5632x2048 .bf16) : IVec S2x16400x2048 1 :=
  let main_v0 : IVec S2x16400x2048 32 := iotaInDim S2x16400x2048 32 1
  let main_c : IVec S_ 32 := constantI S_ 32 16384#32
  let main_v1 : IVec S2x16400x2048 32 := broadcastInDim S2x16400x2048 ![] bcast_S_S2x16400x2048 main_c
  let main_v2 : IVec S2x16400x2048 1 := cmpi .slt main_v0 main_v1
  main_v2
-- ==== Kernel.lean ====
abbrev S2x16400x3072 : Shape := ⟨3, ![2, 16400, 3072]⟩
abbrev S16 : Shape := ⟨1, ![16]⟩
abbrev S2x16400x2048 : Shape := ⟨3, ![2, 16400, 2048]⟩
abbrev S1x4096x512 : Shape := ⟨3, ![1, 4096, 512]⟩
abbrev S1x128x128 : Shape := ⟨3, ![1, 128, 128]⟩
abbrev S1x4096x128 : Shape := ⟨3, ![1, 4096, 128]⟩
abbrev S1x16x128 : Shape := ⟨3, ![1, 16, 128]⟩
abbrev S4480x128 : Shape := ⟨2, ![4480, 128]⟩
abbrev S4480x256 : Shape := ⟨2, ![4480, 256]⟩
abbrev S2x512x512 : Shape := ⟨3, ![2, 512, 512]⟩
abbrev S128x128 : Shape := ⟨2, ![128, 128]⟩
abbrev S4096x128 : Shape := ⟨2, ![4096, 128]⟩
abbrev S16x128 : Shape := ⟨2, ![16, 128]⟩
abbrev S112x128 : Shape := ⟨2, ![112, 128]⟩
abbrev S512x128 : Shape := ⟨2, ![512, 128]⟩
abbrev S1 : Shape := ⟨1, ![1]⟩
abbrev S128x1 : Shape := ⟨2, ![128, 1]⟩
abbrev S512x1 : Shape := ⟨2, ![512, 1]⟩
abbrev S1x128x512 : Shape := ⟨3, ![1, 128, 512]⟩
abbrev S128x512 : Shape := ⟨2, ![128, 512]⟩
abbrev S384x128 : Shape := ⟨2, ![384, 128]⟩
abbrev S512x384 : Shape := ⟨2, ![512, 384]⟩
abbrev S1x512x384 : Shape := ⟨3, ![1, 512, 384]⟩
abbrev S1x512x128 : Shape := ⟨3, ![1, 512, 128]⟩
abbrev S512 : Shape := ⟨1, ![512]⟩
abbrev S384x256 : Shape := ⟨2, ![384, 256]⟩
abbrev S512x256 : Shape := ⟨2, ![512, 256]⟩
abbrev S128x256 : Shape := ⟨2, ![128, 256]⟩

abbrev nBuf : Space → Nat
  | .hbm => 3
  | .vmem => 24
  | .smem => 1
  | _ => 0

abbrev bufTy : (tb : Table) → Fin (tcTables nBuf tb) → BufTy
  | .hbm, ⟨0, _⟩ => ⟨S2x16400x3072, .bf16⟩
  | .hbm, ⟨1, _⟩ => ⟨S16, .f32⟩
  | .hbm, ⟨2, _⟩ => ⟨S2x16400x2048, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x16x128, .bf16⟩
  | .local _ .vmem, ⟨9, _⟩ => ⟨S1x16x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x16x128, .bf16⟩
  | .local _ .vmem, ⟨17, _⟩ => ⟨S1x16x128, .bf16⟩
  | .local _ .vmem, ⟨18, _⟩ => ⟨S1x4096x512, .bf16⟩
  | .local _ .vmem, ⟨19, _⟩ => ⟨S1x4096x512, .bf16⟩
  | .local _ .vmem, ⟨20, _⟩ => ⟨S4480x128, .bf16⟩
  | .local _ .vmem, ⟨21, _⟩ => ⟨S4480x256, .bf16⟩
  | .local _ .vmem, ⟨22, _⟩ => ⟨S2x512x512, .f32⟩
  | .local _ .vmem, ⟨23, _⟩ => ⟨S2x512x512, .bf16⟩
  | .local _ .smem, ⟨0, _⟩ => ⟨S16, .f32⟩
  | _, _ => ⟨S2x16400x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 4, 4], ![false, false, false]⟩

def k0_off1 (i : grid0.Coords) (c0_i32_43 : BitVec 32) : Fin 1 → Nat :=
  let arg1 : BitVec 32 := BitVec.ofNat 32 (i 1).val
  let c4_i32 : BitVec 32 := 4#32
  let v67 : BitVec 32 := Scalar.muli arg1 c4_i32
  let v68 : BitVec 32 := Scalar.addi v67 c0_i32_43
  let v69 : Index := Scalar.indexCast v68
  ![v69.toNat]
def k0_mult1 : BitVec 32 :=
  let c0_i32_51 : BitVec 32 := 0#32
  c0_i32_51
def k0_mult2 : BitVec 32 :=
  let c128_i32_64 : BitVec 32 := 128#32
  c128_i32_64
@[reducible] def k0_t1_loop : Scf.Loop 32 :=
  let c0_i32_111 : BitVec 32 := 0#32
  let c15_i32 : BitVec 32 := 15#32
  let v202 : BitVec 32 := Scalar.addi c0_i32_111 c15_i32
  let c1_i32_112 : BitVec 32 := 1#32
  ⟨c0_i32_111, v202, c1_i32_112⟩
def k0_mult3 (k0_t1 : Fin k0_t1_loop.trips) : BitVec 32 :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c128_i32_192 : BitVec 32 := 128#32
  let v344 : BitVec 32 := Scalar.muli v343 c128_i32_192
  v344
def k0_off2 (k0_t1 : Fin k0_t1_loop.trips) : Fin 2 → Nat :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c128_i32_192 : BitVec 32 := 128#32
  let v344 : BitVec 32 := Scalar.muli v343 c128_i32_192
  let v345 : BitVec 32 := v344
  let v348 : Index := Scalar.indexCast v345
  let c0_196 : Index := 0#32
  ![v348.toNat, 0]
def k0_off3 (k0_t1 : Fin k0_t1_loop.trips) : Fin 3 → Nat :=
  let c0_204 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c128_i32_192 : BitVec 32 := 128#32
  let v344 : BitVec 32 := Scalar.muli v343 c128_i32_192
  let v345 : BitVec 32 := v344
  let v361 : Index := Scalar.indexCast v345
  let c0_205 : Index := 0#32
  ![0, v361.toNat, 0]
def k0_off4 (k0_t1 : Fin k0_t1_loop.trips) : Fin 3 → Nat :=
  let c0_206 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c128_i32_192 : BitVec 32 := 128#32
  let v344 : BitVec 32 := Scalar.muli v343 c128_i32_192
  let v345 : BitVec 32 := v344
  let v367 : Index := Scalar.indexCast v345
  let c128_207 : Index := 128#32
  ![0, v367.toNat, 128]
def k0_off5 (k0_t1 : Fin k0_t1_loop.trips) : Fin 3 → Nat :=
  let c0_208 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c128_i32_192 : BitVec 32 := 128#32
  let v344 : BitVec 32 := Scalar.muli v343 c128_i32_192
  let v345 : BitVec 32 := v344
  let v373 : Index := Scalar.indexCast v345
  let c256_209 : Index := 256#32
  ![0, v373.toNat, 256]
def k0_off6 (k0_t1 : Fin k0_t1_loop.trips) : Fin 3 → Nat :=
  let c0_210 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c128_i32_192 : BitVec 32 := 128#32
  let v344 : BitVec 32 := Scalar.muli v343 c128_i32_192
  let v345 : BitVec 32 := v344
  let v379 : Index := Scalar.indexCast v345
  let c384_211 : Index := 384#32
  ![0, v379.toNat, 384]
def k0_mult4 (k0_t1 : Fin k0_t1_loop.trips) : BitVec 32 :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c2_i32_251 : BitVec 32 := 2#32
  let v450 : BitVec 32 := Scalar.addi v343 c2_i32_251
  let c128_i32_252 : BitVec 32 := 128#32
  let v451 : BitVec 32 := Scalar.muli v450 c128_i32_252
  v451
def k0_off7 (k0_t1 : Fin k0_t1_loop.trips) (c2_i32_251 : BitVec 32) : Fin 3 → Nat :=
  let c0_253 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let v450 : BitVec 32 := Scalar.addi v343 c2_i32_251
  let c128_i32_252 : BitVec 32 := 128#32
  let v451 : BitVec 32 := Scalar.muli v450 c128_i32_252
  let v452 : BitVec 32 := v451
  let v453 : Index := Scalar.indexCast v452
  let c0_254 : Index := 0#32
  ![0, v453.toNat, 0]
def k0_off8 (k0_t1 : Fin k0_t1_loop.trips) (c2_i32_251 : BitVec 32) : Fin 2 → Nat :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let v450 : BitVec 32 := Scalar.addi v343 c2_i32_251
  let c128_i32_252 : BitVec 32 := 128#32
  let v451 : BitVec 32 := Scalar.muli v450 c128_i32_252
  let v452 : BitVec 32 := v451
  let v461 : Index := Scalar.indexCast v452
  let c0_255 : Index := 0#32
  ![v461.toNat, 0]
def k0_mult5 (k0_t1 : Fin k0_t1_loop.trips) : BitVec 32 :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c1_i32_266 : BitVec 32 := 1#32
  let v472 : BitVec 32 := Scalar.addi v343 c1_i32_266
  let c128_i32_267 : BitVec 32 := 128#32
  let v473 : BitVec 32 := Scalar.muli v472 c128_i32_267
  v473
def k0_off9 (k0_t1 : Fin k0_t1_loop.trips) : Fin 2 → Nat :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c1_i32_266 : BitVec 32 := 1#32
  let v472 : BitVec 32 := Scalar.addi v343 c1_i32_266
  let c128_i32_267 : BitVec 32 := 128#32
  let v473 : BitVec 32 := Scalar.muli v472 c128_i32_267
  let v474 : BitVec 32 := v473
  let v477 : Index := Scalar.indexCast v474
  let c0_271 : Index := 0#32
  ![v477.toNat, 0]
def k0_off10 (k0_t1 : Fin k0_t1_loop.trips) : Fin 3 → Nat :=
  let c0_279 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c1_i32_266 : BitVec 32 := 1#32
  let v472 : BitVec 32 := Scalar.addi v343 c1_i32_266
  let c128_i32_267 : BitVec 32 := 128#32
  let v473 : BitVec 32 := Scalar.muli v472 c128_i32_267
  let v474 : BitVec 32 := v473
  let v490 : Index := Scalar.indexCast v474
  let c0_280 : Index := 0#32
  ![0, v490.toNat, 0]
def k0_off11 (k0_t1 : Fin k0_t1_loop.trips) : Fin 3 → Nat :=
  let c0_281 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c1_i32_266 : BitVec 32 := 1#32
  let v472 : BitVec 32 := Scalar.addi v343 c1_i32_266
  let c128_i32_267 : BitVec 32 := 128#32
  let v473 : BitVec 32 := Scalar.muli v472 c128_i32_267
  let v474 : BitVec 32 := v473
  let v496 : Index := Scalar.indexCast v474
  let c128_282 : Index := 128#32
  ![0, v496.toNat, 128]
def k0_off12 (k0_t1 : Fin k0_t1_loop.trips) : Fin 3 → Nat :=
  let c0_283 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c1_i32_266 : BitVec 32 := 1#32
  let v472 : BitVec 32 := Scalar.addi v343 c1_i32_266
  let c128_i32_267 : BitVec 32 := 128#32
  let v473 : BitVec 32 := Scalar.muli v472 c128_i32_267
  let v474 : BitVec 32 := v473
  let v502 : Index := Scalar.indexCast v474
  let c256_284 : Index := 256#32
  ![0, v502.toNat, 256]
def k0_off13 (k0_t1 : Fin k0_t1_loop.trips) : Fin 3 → Nat :=
  let c0_285 : Index := 0#32
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c1_i32_266 : BitVec 32 := 1#32
  let v472 : BitVec 32 := Scalar.addi v343 c1_i32_266
  let c128_i32_267 : BitVec 32 := 128#32
  let v473 : BitVec 32 := Scalar.muli v472 c128_i32_267
  let v474 : BitVec 32 := v473
  let v508 : Index := Scalar.indexCast v474
  let c384_286 : Index := 384#32
  ![0, v508.toNat, 384]
def k0_mult6 (k0_t1 : Fin k0_t1_loop.trips) : BitVec 32 :=
  let c2_i32_191 : BitVec 32 := 2#32
  let c0_i32_111 : BitVec 32 := 0#32
  let c1_i32_112 : BitVec 32 := 1#32
  let arg18 : BitVec 32 := Scf.iv c0_i32_111 c1_i32_112 k0_t1
  let v343 : BitVec 32 := Scalar.muli c2_i32_191 arg18
  let c3_i32_327 : BitVec 32 := 3#32
  let v579 : BitVec 32 := Scalar.addi v343 c3_i32_327
  let c128_i32_328 : BitVec 32 := 128#32
  let v580 : BitVec 32 := Scalar.muli v579 c128_i32_328
  v580
def k0_mult7 : BitVec 32 :=
  let c3840_i32 : BitVec 32 := 3840#32
  c3840_i32
def k0_mult8 : BitVec 32 :=
  let c3968_i32 : BitVec 32 := 3968#32
  c3968_i32
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli c32_i32 arg2
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg1
  let c0_i32_0 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli c32_i32 arg2
  let c32_i32_0 : BitVec 32 := 32#32
  let v1 : BitVec 32 := Scalar.addi v0 c32_i32_0
  let c127_i32 : BitVec 32 := 127#32
  let v2 : BitVec 32 := Scalar.minsi v1 c127_i32
  let c16_i32 : BitVec 32 := 16#32
  let v3 : BitVec 32 := Scalar.addi c16_i32 arg1
  let c0_i32 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c1024_i32 : BitVec 32 := 1024#32
  let c0_i32 : BitVec 32 := 0#32
  ![arg0.toNat, c1024_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli c32_i32 arg2
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let v3 : BitVec 32 := Scalar.addi c20_i32 arg1
  let c0_i32_0 : BitVec 32 := 0#32
  ![arg0.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli c32_i32 arg2
  let c32_i32_0 : BitVec 32 := 32#32
  let v1 : BitVec 32 := Scalar.addi v0 c32_i32_0
  let c127_i32 : BitVec 32 := 127#32
  let v2 : BitVec 32 := Scalar.minsi v1 c127_i32
  let c20_i32 : BitVec 32 := 20#32
  let v3 : BitVec 32 := Scalar.addi c20_i32 arg1
  let c0_i32 : BitVec 32 := 0#32
  ![arg0.toNat, v2.toNat, v3.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c1024_i32 : BitVec 32 := 1024#32
  let c0_i32 : BitVec 32 := 0#32
  ![arg0.toNat, c1024_i32.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x4096x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "inv_scale" => some ((Real.sqrt 128 : ℝ) : EReal)
  | "mask" => some ⊥
  | "scale_log2e" => some (((Real.sqrt 128)⁻¹ * (Real.log 2)⁻¹ : ℝ) : EReal)
  | _ => none
-- ==== ReferenceIdeal.lean ====
abbrev S2x16400x3072 : Shape := ⟨3, ![2, 16400, 3072]⟩
abbrev S16 : Shape := ⟨1, ![16]⟩
abbrev S2x16x3072 : Shape := ⟨3, ![2, 16, 3072]⟩
abbrev S2x16384x3072 : Shape := ⟨3, ![2, 16384, 3072]⟩
abbrev S2x16400x2048 : Shape := ⟨3, ![2, 16400, 2048]⟩
abbrev S2x16400x512 : Shape := ⟨3, ![2, 16400, 512]⟩
abbrev S2x16400x16x128 : Shape := ⟨4, ![2, 16400, 16, 128]⟩
abbrev S2x16400x4x128 : Shape := ⟨4, ![2, 16400, 4, 128]⟩
abbrev S_ : Shape := ⟨0, ![]⟩
abbrev S2x16512x16x128 : Shape := ⟨4, ![2, 16512, 16, 128]⟩
abbrev S2x129x128x4x4x128 : Shape := ⟨6, ![2, 129, 128, 4, 4, 128]⟩
abbrev S2x16768x4x128 : Shape := ⟨4, ![2, 16768, 4, 128]⟩
abbrev S2x131x128x4x128 : Shape := ⟨5, ![2, 131, 128, 4, 128]⟩
abbrev S2x129x128x4x128 : Shape := ⟨5, ![2, 129, 128, 4, 128]⟩
abbrev S2x129x384x4x128 : Shape := ⟨5, ![2, 129, 384, 4, 128]⟩
abbrev S2x16x4x128 : Shape := ⟨4, ![2, 16, 4, 128]⟩
abbrev S16512 : Shape := ⟨1, ![16512]⟩
abbrev S129x128 : Shape := ⟨2, ![129, 128]⟩
abbrev S129 : Shape := ⟨1, ![129]⟩
abbrev S129x1 : Shape := ⟨2, ![129, 1]⟩
abbrev S384 : Shape := ⟨1, ![384]⟩
abbrev S1x384 : Shape := ⟨2, ![1, 384]⟩
abbrev S129x384 : Shape := ⟨2, ![129, 384]⟩
abbrev S129x1x384 : Shape := ⟨3, ![129, 1, 384]⟩
abbrev S129x128x1 : Shape := ⟨3, ![129, 128, 1]⟩
abbrev S129x128x384 : Shape := ⟨3, ![129, 128, 384]⟩
abbrev S2x129x4x384x128x4 : Shape := ⟨6, ![2, 129, 4, 384, 128, 4]⟩
abbrev S2x129x4x4x128x384 : Shape := ⟨6, ![2, 129, 4, 4, 128, 384]⟩
abbrev S1x129x1x1x128x384 : Shape := ⟨6, ![1, 129, 1, 1, 128, 384]⟩
abbrev S2x4x16x129x128x4 : Shape := ⟨6, ![2, 4, 16, 129, 128, 4]⟩
abbrev S2x129x4x4x128x16 : Shape := ⟨6, ![2, 129, 4, 4, 128, 16]⟩
abbrev S1x1x4x4x1x1 : Shape := ⟨6, ![1, 1, 4, 4, 1, 1]⟩
abbrev S2x129x4x4x128x1 : Shape := ⟨6, ![2, 129, 4, 4, 128, 1]⟩
abbrev S2x129x4x4x128x401 : Shape := ⟨6, ![2, 129, 4, 4, 128, 401]⟩
abbrev S2x129x4x4x128 : Shape := ⟨5, ![2, 129, 4, 4, 128]⟩
abbrev S2x4x128x129x4x128 : Shape := ⟨6, ![2, 4, 128, 129, 4, 128]⟩
abbrev S2x129x4x128x4x128 : Shape := ⟨6, ![2, 129, 4, 128, 4, 128]⟩
abbrev S2x16512x2048 : Shape := ⟨3, ![2, 16512, 2048]⟩
abbrev S2x16384x2048 : Shape := ⟨3, ![2, 16384, 2048]⟩
abbrev S2x16x2048 : Shape := ⟨3, ![2, 16, 2048]⟩

abbrev nBuf : Space → Nat
  | .hbm => 121
  | .vmem => 0
  | .smem => 0
  | _ => 0

abbrev bufTy : (tb : Table) → Fin (tcTables nBuf tb) → BufTy
  | .hbm, ⟨0, _⟩ => ⟨S2x16400x3072, .bf16⟩
  | .hbm, ⟨1, _⟩ => ⟨S16, .f32⟩
  | .hbm, ⟨2, _⟩ => ⟨S2x16400x3072, .f32⟩
  | .hbm, ⟨3, _⟩ => ⟨S2x16x3072, .f32⟩
  | .hbm, ⟨4, _⟩ => ⟨S2x16384x3072, .f32⟩
  | .hbm, ⟨5, _⟩ => ⟨S2x16400x3072, .f32⟩
  | .hbm, ⟨6, _⟩ => ⟨S2x16400x2048, .f32⟩
  | .hbm, ⟨7, _⟩ => ⟨S2x16400x512, .f32⟩
  | .hbm, ⟨8, _⟩ => ⟨S2x16400x512, .f32⟩
  | .hbm, ⟨9, _⟩ => ⟨S2x16400x16x128, .f32⟩
  | .hbm, ⟨10, _⟩ => ⟨S2x16400x4x128, .f32⟩
  | .hbm, ⟨11, _⟩ => ⟨S2x16400x4x128, .f32⟩
  | .hbm, ⟨12, _⟩ => ⟨S_, .i32⟩
  | .hbm, ⟨13, _⟩ => ⟨S_, .f32⟩
  | .hbm, ⟨14, _⟩ => ⟨S2x16512x16x128, .f32⟩
  | .hbm, ⟨15, _⟩ => ⟨S2x129x128x4x4x128, .f32⟩
  | .hbm, ⟨16, _⟩ => ⟨S_, .i32⟩
  | .hbm, ⟨17, _⟩ => ⟨S_, .f32⟩
  | .hbm, ⟨18, _⟩ => ⟨S2x16768x4x128, .f32⟩
  | .hbm, ⟨19, _⟩ => ⟨S2x131x128x4x128, .f32⟩
  | .hbm, ⟨20, _⟩ => ⟨S_, .i32⟩
  | .hbm, ⟨21, _⟩ => ⟨S_, .f32⟩
  | .hbm, ⟨22, _⟩ => ⟨S2x16768x4x128, .f32⟩
  | .hbm, ⟨23, _⟩ => ⟨S2x131x128x4x128, .f32⟩
  | .hbm, ⟨24, _⟩ => ⟨S2x129x128x4x128, .f32⟩
  | .hbm, ⟨25, _⟩ => ⟨S2x129x128x4x128, .f32⟩
  | .hbm, ⟨26, _⟩ => ⟨S2x129x128x4x128, .f32⟩
  | .hbm, ⟨27, _⟩ => ⟨S2x129x384x4x128, .f32⟩
  | .hbm, ⟨28, _⟩ => ⟨S2x129x128x4x128, .f32⟩
  | .hbm, ⟨29, _⟩ => ⟨S2x129x128x4x128, .f32⟩
  | .hbm, ⟨30, _⟩ => ⟨S2x129x128x4x128, .f32⟩
  | .hbm, ⟨31, _⟩ => ⟨S2x129x384x4x128, .f32⟩
  | .hbm, ⟨32, _⟩ => ⟨S2x16x4x128, .f32⟩
  | .hbm, ⟨33, _⟩ => ⟨S2x16x4x128, .f32⟩
  | .hbm, ⟨34, _⟩ => ⟨S16512, .i32⟩
  | .hbm, ⟨35, _⟩ => ⟨S129x128, .i32⟩
  | .hbm, ⟨36, _⟩ => ⟨S_, .i32⟩
  | .hbm, ⟨37, _⟩ => ⟨S129x128, .i32⟩
  | .hbm, ⟨38, _⟩ => ⟨S129x128, .i32⟩
  | .hbm, ⟨39, _⟩ => ⟨S129, .i32⟩
  | .hbm, ⟨40, _⟩ => ⟨S129x1, .i32⟩
  | .hbm, ⟨41, _⟩ => ⟨S_, .i32⟩
  | .hbm, ⟨42, _⟩ => ⟨S129x1, .i32⟩
  | .hbm, ⟨43, _⟩ => ⟨S129x1, .i32⟩
  | .hbm, ⟨44, _⟩ => ⟨S384, .i32⟩
  | .hbm, ⟨45, _⟩ => ⟨S1x384, .i32⟩
  | .hbm, ⟨46, _⟩ => ⟨S129x384, .i32⟩
  | .hbm, ⟨47, _⟩ => ⟨S129x384, .i32⟩
  | .hbm, ⟨48, _⟩ => ⟨S129x384, .i32⟩
  | .hbm, ⟨49, _⟩ => ⟨S_, .i32⟩
  | .hbm, ⟨50, _⟩ => ⟨S129x384, .i32⟩
  | .hbm, ⟨51, _⟩ => ⟨S129x384, .i32⟩
  | .hbm, ⟨52, _⟩ => ⟨S_, .i32⟩
  | .hbm, ⟨53, _⟩ => ⟨S129x384, .i32⟩
  | .hbm, ⟨54, _⟩ => ⟨S129x384, .i32⟩
  | .hbm, ⟨55, _⟩ => ⟨S129x1x384, .i32⟩
  | .hbm, ⟨56, _⟩ => ⟨S_, .i32⟩
  | .hbm, ⟨57, _⟩ => ⟨S129x1x384, .i32⟩
  | .hbm, ⟨58, _⟩ => ⟨S129x1x384, .i1⟩
  | .hbm, ⟨59, _⟩ => ⟨S129x1x384, .i32⟩
  | .hbm, ⟨60, _⟩ => ⟨S_, .i32⟩
  | .hbm, ⟨61, _⟩ => ⟨S129x1x384, .i32⟩
  | .hbm, ⟨62, _⟩ => ⟨S129x1x384, .i1⟩
  | .hbm, ⟨63, _⟩ => ⟨S129x1x384, .i1⟩
  | .hbm, ⟨64, _⟩ => ⟨S129x128x1, .i32⟩
  | .hbm, ⟨65, _⟩ => ⟨S129x1x384, .i32⟩
  | .hbm, ⟨66, _⟩ => ⟨S129x128x384, .i32⟩
  | .hbm, ⟨67, _⟩ => ⟨S129x128x384, .i32⟩
  | .hbm, ⟨68, _⟩ => ⟨S129x128x384, .i32⟩
  | .hbm, ⟨69, _⟩ => ⟨S129x128x384, .i32⟩
  | .hbm, ⟨70, _⟩ => ⟨S_, .i32⟩
  | .hbm, ⟨71, _⟩ => ⟨S129x128x384, .i32⟩
  | .hbm, ⟨72, _⟩ => ⟨S129x128x384, .i1⟩
  | .hbm, ⟨73, _⟩ => ⟨S129x128x384, .i1⟩
  | .hbm, ⟨74, _⟩ => ⟨S129x128x384, .i1⟩
  | .hbm, ⟨75, _⟩ => ⟨S2x129x4x384x128x4, .f32⟩
  | .hbm, ⟨76, _⟩ => ⟨S2x129x4x4x128x384, .f32⟩
  | .hbm, ⟨77, _⟩ => ⟨S_, .f32⟩
  | .hbm, ⟨78, _⟩ => ⟨S2x129x4x4x128x384, .f32⟩
  | .hbm, ⟨79, _⟩ => ⟨S2x129x4x4x128x384, .f32⟩
  | .hbm, ⟨80, _⟩ => ⟨S1x129x1x1x128x384, .i1⟩
  | .hbm, ⟨81, _⟩ => ⟨S_, .f32⟩
  | .hbm, ⟨82, _⟩ => ⟨S_, .f32⟩
  | .hbm, ⟨83, _⟩ => ⟨S2x129x4x4x128x384, .i1⟩
  | .hbm, ⟨84, _⟩ => ⟨S2x129x4x4x128x384, .f32⟩
  | .hbm, ⟨85, _⟩ => ⟨S2x129x4x4x128x384, .f32⟩
  | .hbm, ⟨86, _⟩ => ⟨S2x4x16x129x128x4, .f32⟩
  | .hbm, ⟨87, _⟩ => ⟨S2x129x4x4x128x16, .f32⟩
  | .hbm, ⟨88, _⟩ => ⟨S_, .f32⟩
  | .hbm, ⟨89, _⟩ => ⟨S2x129x4x4x128x16, .f32⟩
  | .hbm, ⟨90, _⟩ => ⟨S2x129x4x4x128x16, .f32⟩
  | .hbm, ⟨91, _⟩ => ⟨S1x1x4x4x1x1, .f32⟩
  | .hbm, ⟨92, _⟩ => ⟨S2x129x4x4x128x1, .f32⟩
  | .hbm, ⟨93, _⟩ => ⟨S2x129x4x4x128x401, .f32⟩
  | .hbm, ⟨94, _⟩ => ⟨S_, .f32⟩
  | .hbm, ⟨95, _⟩ => ⟨S2x129x4x4x128, .f32⟩
  | .hbm, ⟨96, _⟩ => ⟨S_, .f32⟩
  | .hbm, ⟨97, _⟩ => ⟨S2x129x4x4x128, .f32⟩
  | .hbm, ⟨98, _⟩ => ⟨S2x129x4x4x128, .f32⟩
  | .hbm, ⟨99, _⟩ => ⟨S2x129x4x4x128x1, .f32⟩
  | .hbm, ⟨100, _⟩ => ⟨S2x129x4x4x128x401, .f32⟩
  | .hbm, ⟨101, _⟩ => ⟨S2x129x4x4x128x401, .f32⟩
  | .hbm, ⟨102, _⟩ => ⟨S2x129x4x4x128x401, .f32⟩
  | .hbm, ⟨103, _⟩ => ⟨S_, .f32⟩
  | .hbm, ⟨104, _⟩ => ⟨S2x129x4x4x128, .f32⟩
  | .hbm, ⟨105, _⟩ => ⟨S2x129x4x4x128x1, .f32⟩
  | .hbm, ⟨106, _⟩ => ⟨S2x129x4x4x128x401, .f32⟩
  | .hbm, ⟨107, _⟩ => ⟨S2x129x4x4x128x401, .f32⟩
  | .hbm, ⟨108, _⟩ => ⟨S2x129x4x4x128x16, .f32⟩
  | .hbm, ⟨109, _⟩ => ⟨S2x129x4x4x128x384, .f32⟩
  | .hbm, ⟨110, _⟩ => ⟨S2x4x128x129x4x128, .f32⟩
  | .hbm, ⟨111, _⟩ => ⟨S2x129x128x4x4x128, .f32⟩
  | .hbm, ⟨112, _⟩ => ⟨S2x129x4x128x4x128, .f32⟩
  | .hbm, ⟨113, _⟩ => ⟨S2x129x128x4x4x128, .f32⟩
  | .hbm, ⟨114, _⟩ => ⟨S2x129x128x4x4x128, .f32⟩
  | .hbm, ⟨115, _⟩ => ⟨S2x16512x2048, .f32⟩
  | .hbm, ⟨116, _⟩ => ⟨S2x16400x2048, .f32⟩
  | .hbm, ⟨117, _⟩ => ⟨S2x16400x2048, .bf16⟩
  | .hbm, ⟨118, _⟩ => ⟨S2x16384x2048, .bf16⟩
  | .hbm, ⟨119, _⟩ => ⟨S2x16x2048, .bf16⟩
  | .hbm, ⟨120, _⟩ => ⟨S2x16400x2048, .bf16⟩
  | _, _ => ⟨S2x16400x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call3_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call4_v0 : Ref sig .tc := ⟨.hbm, 34, rfl⟩
abbrev main_call4_v1 : Ref sig .tc := ⟨.hbm, 35, rfl⟩
abbrev main_call4_c : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_call4_v5 : Ref sig .tc := ⟨.hbm, 40, rfl⟩
abbrev main_call4_c_0 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_v9 : Ref sig .tc := ⟨.hbm, 45, rfl⟩
abbrev main_call4_v10 : Ref sig .tc := ⟨.hbm, 46, rfl⟩
abbrev main_call4_v11 : Ref sig .tc := ⟨.hbm, 47, rfl⟩
abbrev main_call4_v12 : Ref sig .tc := ⟨.hbm, 48, rfl⟩
abbrev main_call4_c_1 : Ref sig .tc := ⟨.hbm, 49, rfl⟩
abbrev main_call4_v13 : Ref sig .tc := ⟨.hbm, 50, rfl⟩
abbrev main_call4_v14 : Ref sig .tc := ⟨.hbm, 51, rfl⟩
abbrev main_call4_c_2 : Ref sig .tc := ⟨.hbm, 52, rfl⟩
abbrev main_call4_v15 : Ref sig .tc := ⟨.hbm, 53, rfl⟩
abbrev main_call4_v16 : Ref sig .tc := ⟨.hbm, 54, rfl⟩
abbrev main_call4_v17 : Ref sig .tc := ⟨.hbm, 55, rfl⟩
abbrev main_call4_c_3 : Ref sig .tc := ⟨.hbm, 56, rfl⟩
abbrev main_call4_v18 : Ref sig .tc := ⟨.hbm, 57, rfl⟩
abbrev main_call4_v19 : Ref sig .tc := ⟨.hbm, 58, rfl⟩
abbrev main_call4_v20 : Ref sig .tc := ⟨.hbm, 59, rfl⟩
abbrev main_call4_c_4 : Ref sig .tc := ⟨.hbm, 60, rfl⟩
abbrev main_call4_v21 : Ref sig .tc := ⟨.hbm, 61, rfl⟩
abbrev main_call4_v22 : Ref sig .tc := ⟨.hbm, 62, rfl⟩
abbrev main_call4_v23 : Ref sig .tc := ⟨.hbm, 63, rfl⟩
abbrev main_call4_v24 : Ref sig .tc := ⟨.hbm, 64, rfl⟩
abbrev main_call4_v25 : Ref sig .tc := ⟨.hbm, 65, rfl⟩
abbrev main_call4_v26 : Ref sig .tc := ⟨.hbm, 66, rfl⟩
abbrev main_call4_v27 : Ref sig .tc := ⟨.hbm, 67, rfl⟩
abbrev main_call4_v28 : Ref sig .tc := ⟨.hbm, 68, rfl⟩
abbrev main_call4_v29 : Ref sig .tc := ⟨.hbm, 69, rfl⟩
abbrev main_call4_c_5 : Ref sig .tc := ⟨.hbm, 70, rfl⟩
abbrev main_call4_v30 : Ref sig .tc := ⟨.hbm, 71, rfl⟩
abbrev main_call4_v31 : Ref sig .tc := ⟨.hbm, 72, rfl⟩
abbrev main_call4_v32 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_2 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_3 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_call6_cst : Ref sig .tc := ⟨.hbm, 94, rfl⟩
abbrev main_call6_v0 : Ref sig .tc := ⟨.hbm, 95, rfl⟩
abbrev main_call6_cst_0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_v5 : Ref sig .tc := ⟨.hbm, 101, rfl⟩
abbrev main_call6_v6 : Ref sig .tc := ⟨.hbm, 102, rfl⟩
abbrev main_call6_cst_1 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_call7_v0 : Ref sig .tc := ⟨.hbm, 118, rfl⟩
abbrev main_call7_v1 : Ref sig .tc := ⟨.hbm, 119, rfl⟩
abbrev main_v49 : Ref sig .tc := ⟨.hbm, 120, rfl⟩

abbrev nD : Nat := 1
abbrev τ : Topo := Topo.v7x

variable {F : FTy → Type} [FloatOps F]

def κ : String → Option EReal := fun
  | "mask" => some ⊥
  | "scale" => some (((Real.sqrt 128)⁻¹ : ℝ) : EReal)
  | _ => none
-- ==== Kernel2.lean ====
abbrev S2x16400x2048 : Shape := ⟨3, ![2, 16400, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S2x16384x2048 : Shape := ⟨3, ![2, 16384, 2048]⟩
abbrev S1x1024x2048 : Shape := ⟨3, ![1, 1024, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1024x512 : Shape := ⟨2, ![1024, 512]⟩
abbrev S512x2048 : Shape := ⟨2, ![512, 2048]⟩

abbrev nBuf : Space → Nat
  | .hbm => 7
  | .vmem => 13
  | .smem => 0
  | _ => 0

abbrev bufTy : (tb : Table) → Fin (tcTables nBuf tb) → BufTy
  | .hbm, ⟨0, _⟩ => ⟨S2x16400x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S1x2048, .f32⟩
  | .hbm, ⟨6, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1024x2048, .bf16⟩
  | _, _ => ⟨S2x16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 16, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S2x16400x2048 : Shape := ⟨3, ![2, 16400, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S2048 : Shape := ⟨1, ![2048]⟩
abbrev S_ : Shape := ⟨0, ![]⟩
abbrev S2x16400 : Shape := ⟨2, ![2, 16400]⟩
abbrev S2x16400x1 : Shape := ⟨3, ![2, 16400, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x16400x5632 : Shape := ⟨3, ![2, 16400, 5632]⟩
abbrev S2x16384x2048 : Shape := ⟨3, ![2, 16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x16400x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S1x2048, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S2048, .f32⟩
  | .hbm, ⟨10, _⟩ => ⟨S2x16400x2048, .f32⟩
  | .hbm, ⟨11, _⟩ => ⟨S_, .f32⟩
  | .hbm, ⟨12, _⟩ => ⟨S2x16400, .f32⟩
  | .hbm, ⟨13, _⟩ => ⟨S2x16400x1, .f32⟩
  | .hbm, ⟨14, _⟩ => ⟨S_, .f32⟩
  | .hbm, ⟨15, _⟩ => ⟨S2x16400x1, .f32⟩
  | .hbm, ⟨16, _⟩ => ⟨S2x16400x1, .f32⟩
  | .hbm, ⟨17, _⟩ => ⟨S_, .f32⟩
  | .hbm, ⟨18, _⟩ => ⟨S2x16400x1, .f32⟩
  | .hbm, ⟨19, _⟩ => ⟨S2x16400x1, .f32⟩
  | .hbm, ⟨20, _⟩ => ⟨S2x16400x1, .f32⟩
  | .hbm, ⟨21, _⟩ => ⟨S2x16400x2048, .f32⟩
  | .hbm, ⟨22, _⟩ => ⟨S2x16400x2048, .f32⟩
  | .hbm, ⟨23, _⟩ => ⟨S1x1x2048, .f32⟩
  | .hbm, ⟨24, _⟩ => ⟨S2x16400x2048, .f32⟩
  | .hbm, ⟨25, _⟩ => ⟨S2x16400x2048, .f32⟩
  | .hbm, ⟨26, _⟩ => ⟨S1x2048x5632, .f32⟩
  | .hbm, ⟨27, _⟩ => ⟨S2048x5632, .f32⟩
  | .hbm, ⟨28, _⟩ => ⟨S1x2048x5632, .f32⟩
  | .hbm, ⟨29, _⟩ => ⟨S2048x5632, .f32⟩
  | .hbm, ⟨30, _⟩ => ⟨S1x5632x2048, .f32⟩
  | .hbm, ⟨31, _⟩ => ⟨S5632x2048, .f32⟩
  | .hbm, ⟨32, _⟩ => ⟨S2x16400x5632, .f32⟩
  | .hbm, ⟨33, _⟩ => ⟨S2x16400x5632, .f32⟩
  | .hbm, ⟨34, _⟩ => ⟨S2x16400x5632, .f32⟩
  | .hbm, ⟨35, _⟩ => ⟨S_, .f32⟩
  | .hbm, ⟨36, _⟩ => ⟨S2x16400x5632, .f32⟩
  | .hbm, ⟨37, _⟩ => ⟨S2x16400x5632, .f32⟩
  | .hbm, ⟨38, _⟩ => ⟨S_, .f32⟩
  | .hbm, ⟨39, _⟩ => ⟨S2x16400x5632, .f32⟩
  | .hbm, ⟨40, _⟩ => ⟨S2x16400x5632, .f32⟩
  | .hbm, ⟨41, _⟩ => ⟨S2x16400x5632, .f32⟩
  | .hbm, ⟨42, _⟩ => ⟨S2x16400x5632, .f32⟩
  | .hbm, ⟨43, _⟩ => ⟨S2x16400x5632, .f32⟩
  | .hbm, ⟨44, _⟩ => ⟨S2x16400x2048, .f32⟩
  | .hbm, ⟨45, _⟩ => ⟨S_, .f32⟩
  | .hbm, ⟨46, _⟩ => ⟨S2x16400x2048, .f32⟩
  | .hbm, ⟨47, _⟩ => ⟨S2x16400x2048, .f32⟩
  | .hbm, ⟨48, _⟩ => ⟨S2x16400x2048, .f32⟩
  | .hbm, ⟨49, _⟩ => ⟨S2048, .f32⟩
  | .hbm, ⟨50, _⟩ => ⟨S2x16400x2048, .f32⟩
  | .hbm, ⟨51, _⟩ => ⟨S_, .f32⟩
  | .hbm, ⟨52, _⟩ => ⟨S2x16400, .f32⟩
  | .hbm, ⟨53, _⟩ => ⟨S2x16400x1, .f32⟩
  | .hbm, ⟨54, _⟩ => ⟨S_, .f32⟩
  | .hbm, ⟨55, _⟩ => ⟨S2x16400x1, .f32⟩
  | .hbm, ⟨56, _⟩ => ⟨S2x16400x1, .f32⟩
  | .hbm, ⟨57, _⟩ => ⟨S_, .f32⟩
  | .hbm, ⟨58, _⟩ => ⟨S2x16400x1, .f32⟩
  | .hbm, ⟨59, _⟩ => ⟨S2x16400x1, .f32⟩
  | .hbm, ⟨60, _⟩ => ⟨S2x16400x1, .f32⟩
  | .hbm, ⟨61, _⟩ => ⟨S2x16400x2048, .f32⟩
  | .hbm, ⟨62, _⟩ => ⟨S2x16400x2048, .f32⟩
  | .hbm, ⟨63, _⟩ => ⟨S1x1x2048, .f32⟩
  | .hbm, ⟨64, _⟩ => ⟨S2x16400x2048, .f32⟩
  | .hbm, ⟨65, _⟩ => ⟨S2x16400x2048, .f32⟩
  | .hbm, ⟨66, _⟩ => ⟨S2x16384x2048, .f32⟩
  | _, _ => ⟨S2x16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel3.lean ====
abbrev S2x16400x2048 : Shape := ⟨3, ![2, 16400, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1x1024x2048 : Shape := ⟨3, ![1, 1024, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S1024 : Shape := ⟨1, ![1024]⟩
abbrev S1024x1 : Shape := ⟨2, ![1024, 1]⟩
abbrev S1x2048x256 : Shape := ⟨3, ![1, 2048, 256]⟩
abbrev S2048x256 : Shape := ⟨2, ![2048, 256]⟩
abbrev S1024x256 : Shape := ⟨2, ![1024, 256]⟩
abbrev S1024x512 : Shape := ⟨2, ![1024, 512]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2x16400x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S2x16400x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x1024x2048, .f32⟩
  | .local _ .vmem, ⟨10, _⟩ => ⟨S1x1024x2048, .f32⟩
  | .local _ .vmem, ⟨11, _⟩ => ⟨S1024x2048, .bf16⟩
  | _, _ => ⟨S2x16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 11], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S2x16400x2048 : Shape := ⟨3, ![2, 16400, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S2048 : Shape := ⟨1, ![2048]⟩
abbrev S_ : Shape := ⟨0, ![]⟩
abbrev S2x16400 : Shape := ⟨2, ![2, 16400]⟩
abbrev S2x16400x1 : Shape := ⟨3, ![2, 16400, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S2x16400x5632 : Shape := ⟨3, ![2, 16400, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2x16400x2048, .f32⟩
  | .hbm, ⟨1, _⟩ => ⟨S1x2048, .f32⟩
  | .hbm, ⟨2, _⟩ => ⟨S2x2048x5632, .bf16⟩
  | .hbm, ⟨3, _⟩ => ⟨S2x2048x5632, .bf16⟩
  | .hbm, ⟨4, _⟩ => ⟨S2x5632x2048, .bf16⟩
  | .hbm, ⟨5, _⟩ => ⟨S2x2048x5632, .f32⟩
  | .hbm, ⟨6, _⟩ => ⟨S2x2048x5632, .f32⟩
  | .hbm, ⟨7, _⟩ => ⟨S2x5632x2048, .f32⟩
  | .hbm, ⟨8, _⟩ => ⟨S2048, .f32⟩
  | .hbm, ⟨9, _⟩ => ⟨S2x16400x2048, .f32⟩
  | .hbm, ⟨10, _⟩ => ⟨S_, .f32⟩
  | .hbm, ⟨11, _⟩ => ⟨S2x16400, .f32⟩
  | .hbm, ⟨12, _⟩ => ⟨S2x16400x1, .f32⟩
  | .hbm, ⟨13, _⟩ => ⟨S_, .f32⟩
  | .hbm, ⟨14, _⟩ => ⟨S2x16400x1, .f32⟩
  | .hbm, ⟨15, _⟩ => ⟨S2x16400x1, .f32⟩
  | .hbm, ⟨16, _⟩ => ⟨S_, .f32⟩
  | .hbm, ⟨17, _⟩ => ⟨S2x16400x1, .f32⟩
  | .hbm, ⟨18, _⟩ => ⟨S2x16400x1, .f32⟩
  | .hbm, ⟨19, _⟩ => ⟨S2x16400x1, .f32⟩
  | .hbm, ⟨20, _⟩ => ⟨S2x16400x2048, .f32⟩
  | .hbm, ⟨21, _⟩ => ⟨S2x16400x2048, .f32⟩
  | .hbm, ⟨22, _⟩ => ⟨S1x1x2048, .f32⟩
  | .hbm, ⟨23, _⟩ => ⟨S2x16400x2048, .f32⟩
  | .hbm, ⟨24, _⟩ => ⟨S2x16400x2048, .f32⟩
  | .hbm, ⟨25, _⟩ => ⟨S1x2048x5632, .f32⟩
  | .hbm, ⟨26, _⟩ => ⟨S2048x5632, .f32⟩
  | .hbm, ⟨27, _⟩ => ⟨S1x2048x5632, .f32⟩
  | .hbm, ⟨28, _⟩ => ⟨S2048x5632, .f32⟩
  | .hbm, ⟨29, _⟩ => ⟨S1x5632x2048, .f32⟩
  | .hbm, ⟨30, _⟩ => ⟨S5632x2048, .f32⟩
  | .hbm, ⟨31, _⟩ => ⟨S2x16400x5632, .f32⟩
  | .hbm, ⟨32, _⟩ => ⟨S2x16400x5632, .f32⟩
  | .hbm, ⟨33, _⟩ => ⟨S2x16400x5632, .f32⟩
  | .hbm, ⟨34, _⟩ => ⟨S_, .f32⟩
  | .hbm, ⟨35, _⟩ => ⟨S2x16400x5632, .f32⟩
  | .hbm, ⟨36, _⟩ => ⟨S2x16400x5632, .f32⟩
  | .hbm, ⟨37, _⟩ => ⟨S_, .f32⟩
  | .hbm, ⟨38, _⟩ => ⟨S2x16400x5632, .f32⟩
  | .hbm, ⟨39, _⟩ => ⟨S2x16400x5632, .f32⟩
  | .hbm, ⟨40, _⟩ => ⟨S2x16400x5632, .f32⟩
  | .hbm, ⟨41, _⟩ => ⟨S2x16400x5632, .f32⟩
  | .hbm, ⟨42, _⟩ => ⟨S2x16400x5632, .f32⟩
  | .hbm, ⟨43, _⟩ => ⟨S2x16400x2048, .f32⟩
  | .hbm, ⟨44, _⟩ => ⟨S_, .f32⟩
  | .hbm, ⟨45, _⟩ => ⟨S2x16400x2048, .f32⟩
  | .hbm, ⟨46, _⟩ => ⟨S2x16400x2048, .f32⟩
  | .hbm, ⟨47, _⟩ => ⟨S2x16400x2048, .f32⟩
  | _, _ => ⟨S2x16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel4.lean ====
abbrev S2x16400x2048 : Shape := ⟨3, ![2, 16400, 2048]⟩
abbrev S2x16400x1024 : Shape := ⟨3, ![2, 16400, 1024]⟩
abbrev S2x2048x2048 : Shape := ⟨3, ![2, 2048, 2048]⟩
abbrev S2x1024x2048 : Shape := ⟨3, ![2, 1024, 2048]⟩
abbrev S2x2048x4096 : Shape := ⟨3, ![2, 2048, 4096]⟩
abbrev S1x256x2048 : Shape := ⟨3, ![1, 256, 2048]⟩
abbrev S1x256x1024 : Shape := ⟨3, ![1, 256, 1024]⟩
abbrev S1x2048x2048 : Shape := ⟨3, ![1, 2048, 2048]⟩
abbrev S1x1024x2048 : Shape := ⟨3, ![1, 1024, 2048]⟩
abbrev S1x2048x4096 : Shape := ⟨3, ![1, 2048, 4096]⟩
abbrev S256x2048 : Shape := ⟨2, ![256, 2048]⟩
abbrev S256x1024 : Shape := ⟨2, ![256, 1024]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩
abbrev S1024x2048 : Shape := ⟨2, ![1024, 2048]⟩

abbrev nBuf : Space → Nat
  | .hbm => 9
  | .vmem => 14
  | .smem => 0
  | _ => 0

abbrev bufTy : (tb : Table) → Fin (tcTables nBuf tb) → BufTy
  | .hbm, ⟨0, _⟩ => ⟨S2x16400x2048, .f32⟩
  | .hbm, ⟨1, _⟩ => ⟨S2x16400x2048, .bf16⟩
  | .hbm, ⟨2, _⟩ => ⟨S2x16400x2048, .bf16⟩
  | .hbm, ⟨3, _⟩ => ⟨S2x16400x1024, .bf16⟩
  | .hbm, ⟨4, _⟩ => ⟨S2x2048x2048, .bf16⟩
  | .hbm, ⟨5, _⟩ => ⟨S2x1024x2048, .bf16⟩
  | .hbm, ⟨6, _⟩ => ⟨S2x2048x4096, .bf16⟩
  | .hbm, ⟨7, _⟩ => ⟨S2x2048x2048, .bf16⟩
  | .hbm, ⟨8, _⟩ => ⟨S2x16400x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x2048, .bf16⟩
  | .local _ .vmem, ⟨9, _⟩ => ⟨S1x1024x2048, .bf16⟩
  | .local _ .vmem, ⟨10, _⟩ => ⟨S1x2048x4096, .bf16⟩
  | .local _ .vmem, ⟨11, _⟩ => ⟨S1x2048x2048, .bf16⟩
  | .local _ .vmem, ⟨12, _⟩ => ⟨S1x256x2048, .f32⟩
  | .local _ .vmem, ⟨13, _⟩ => ⟨S1x256x2048, .f32⟩
  | _, _ => ⟨S2x16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x16400x2048 : Shape := ⟨3, ![2, 16400, 2048]⟩
abbrev S2x16400x1024 : Shape := ⟨3, ![2, 16400, 1024]⟩
abbrev S2x2048x2048 : Shape := ⟨3, ![2, 2048, 2048]⟩
abbrev S2x1024x2048 : Shape := ⟨3, ![2, 1024, 2048]⟩
abbrev S2x2048x4096 : Shape := ⟨3, ![2, 2048, 4096]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩
abbrev S1x2048x4096 : Shape := ⟨3, ![1, 2048, 4096]⟩
abbrev S2048x4096 : Shape := ⟨2, ![2048, 4096]⟩
abbrev S2x16400x4096 : Shape := ⟨3, ![2, 16400, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x16400x2048, .f32⟩
  | .hbm, ⟨1, _⟩ => ⟨S2x16400x2048, .bf16⟩
  | .hbm, ⟨2, _⟩ => ⟨S2x16400x2048, .bf16⟩
  | .hbm, ⟨3, _⟩ => ⟨S2x16400x1024, .bf16⟩
  | .hbm, ⟨4, _⟩ => ⟨S2x2048x2048, .bf16⟩
  | .hbm, ⟨5, _⟩ => ⟨S2x1024x2048, .bf16⟩
  | .hbm, ⟨6, _⟩ => ⟨S2x2048x4096, .bf16⟩
  | .hbm, ⟨7, _⟩ => ⟨S2x2048x2048, .bf16⟩
  | .hbm, ⟨8, _⟩ => ⟨S2x16400x2048, .f32⟩
  | .hbm, ⟨9, _⟩ => ⟨S2x16400x2048, .f32⟩
  | .hbm, ⟨10, _⟩ => ⟨S2x16400x1024, .f32⟩
  | .hbm, ⟨11, _⟩ => ⟨S2x2048x2048, .f32⟩
  | .hbm, ⟨12, _⟩ => ⟨S2x1024x2048, .f32⟩
  | .hbm, ⟨13, _⟩ => ⟨S2x2048x4096, .f32⟩
  | .hbm, ⟨14, _⟩ => ⟨S2x2048x2048, .f32⟩
  | .hbm, ⟨15, _⟩ => ⟨S1x2048x2048, .f32⟩
  | .hbm, ⟨16, _⟩ => ⟨S2048x2048, .f32⟩
  | .hbm, ⟨17, _⟩ => ⟨S2x16400x2048, .f32⟩
  | .hbm, ⟨18, _⟩ => ⟨S1x1024x2048, .f32⟩
  | .hbm, ⟨19, _⟩ => ⟨S1024x2048, .f32⟩
  | .hbm, ⟨20, _⟩ => ⟨S2x16400x2048, .f32⟩
  | .hbm, ⟨21, _⟩ => ⟨S1x2048x4096, .f32⟩
  | .hbm, ⟨22, _⟩ => ⟨S2048x4096, .f32⟩
  | .hbm, ⟨23, _⟩ => ⟨S2x16400x4096, .f32⟩
  | .hbm, ⟨24, _⟩ => ⟨S2x16400x4096, .f32⟩
  | .hbm, ⟨25, _⟩ => ⟨S2x16400x4096, .f32⟩
  | .hbm, ⟨26, _⟩ => ⟨S_, .f32⟩
  | .hbm, ⟨27, _⟩ => ⟨S2x16400x4096, .f32⟩
  | .hbm, ⟨28, _⟩ => ⟨S2x16400x4096, .f32⟩
  | .hbm, ⟨29, _⟩ => ⟨S_, .f32⟩
  | .hbm, ⟨30, _⟩ => ⟨S2x16400x4096, .f32⟩
  | .hbm, ⟨31, _⟩ => ⟨S2x16400x4096, .f32⟩
  | .hbm, ⟨32, _⟩ => ⟨S2x16400x2048, .f32⟩
  | .hbm, ⟨33, _⟩ => ⟨S2x16400x2048, .f32⟩
  | .hbm, ⟨34, _⟩ => ⟨S2x16400x2048, .f32⟩
  | .hbm, ⟨35, _⟩ => ⟨S2x16400x2048, .f32⟩
  | .hbm, ⟨36, _⟩ => ⟨S2x16400x2048, .f32⟩
  | .hbm, ⟨37, _⟩ => ⟨S1x2048x2048, .f32⟩
  | .hbm, ⟨38, _⟩ => ⟨S2048x2048, .f32⟩
  | .hbm, ⟨39, _⟩ => ⟨S2x16400x2048, .f32⟩
  | .hbm, ⟨40, _⟩ => ⟨S2x16400x2048, .f32⟩
  | _, _ => ⟨S2x16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S2x16400x2048 : Shape := ⟨3, ![2, 16400, 2048]⟩
abbrev S1x2048 : Shape := ⟨2, ![1, 2048]⟩
abbrev S2x2048x4096 : Shape := ⟨3, ![2, 2048, 4096]⟩
abbrev S16400x16 : Shape := ⟨2, ![16400, 16]⟩
abbrev S128x256 : Shape := ⟨2, ![128, 256]⟩
abbrev S_ : Shape := ⟨0, ![]⟩
abbrev S16400x96 : Shape := ⟨2, ![16400, 96]⟩
abbrev S16400x128 : Shape := ⟨2, ![16400, 128]⟩
abbrev S2x16400x3072 : Shape := ⟨3, ![2, 16400, 3072]⟩
abbrev S2x2x16400x1024 : Shape := ⟨4, ![2, 2, 16400, 1024]⟩
abbrev S1x512x2048 : Shape := ⟨3, ![1, 512, 2048]⟩
abbrev S1x2048x4096 : Shape := ⟨3, ![1, 2048, 4096]⟩
abbrev S512x128 : Shape := ⟨2, ![512, 128]⟩
abbrev S1x512x3072 : Shape := ⟨3, ![1, 512, 3072]⟩
abbrev S1x2x512x1024 : Shape := ⟨4, ![1, 2, 512, 1024]⟩
abbrev S512x2048 : Shape := ⟨2, ![512, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x512x128 : Shape := ⟨3, ![1, 512, 128]⟩
abbrev S1x512x512 : Shape := ⟨3, ![1, 512, 512]⟩
abbrev S512x256 : Shape := ⟨2, ![512, 256]⟩
abbrev S1x1x512x128 : Shape := ⟨4, ![1, 1, 512, 128]⟩

abbrev nBuf : Space → Nat
  | .hbm => 19
  | .vmem => 17
  | .smem => 0
  | _ => 0

abbrev bufTy : (tb : Table) → Fin (tcTables nBuf tb) → BufTy
  | .hbm, ⟨0, _⟩ => ⟨S2x16400x2048, .f32⟩
  | .hbm, ⟨1, _⟩ => ⟨S1x2048, .f32⟩
  | .hbm, ⟨2, _⟩ => ⟨S2x2048x4096, .bf16⟩
  | .hbm, ⟨3, _⟩ => ⟨S16400x16, .f32⟩
  | .hbm, ⟨4, _⟩ => ⟨S16400x16, .f32⟩
  | .hbm, ⟨5, _⟩ => ⟨S128x256, .bf16⟩
  | .hbm, ⟨6, _⟩ => ⟨S_, .f32⟩
  | .hbm, ⟨7, _⟩ => ⟨S16400x96, .f32⟩
  | .hbm, ⟨8, _⟩ => ⟨S_, .f32⟩
  | .hbm, ⟨9, _⟩ => ⟨S16400x16, .f32⟩
  | .hbm, ⟨10, _⟩ => ⟨S_, .f32⟩
  | .hbm, ⟨11, _⟩ => ⟨S16400x96, .f32⟩
  | .hbm, ⟨12, _⟩ => ⟨S16400x128, .f32⟩
  | .hbm, ⟨13, _⟩ => ⟨S16400x16, .f32⟩
  | .hbm, ⟨14, _⟩ => ⟨S16400x128, .f32⟩
  | .hbm, ⟨15, _⟩ => ⟨S16400x128, .f32⟩
  | .hbm, ⟨16, _⟩ => ⟨S2x16400x3072, .bf16⟩
  | .hbm, ⟨17, _⟩ => ⟨S2x2x16400x1024, .bf16⟩
  | .hbm, ⟨18, _⟩ => ⟨S2x16400x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x2048x4096, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x256, .bf16⟩
  | .local _ .vmem, ⟨11, _⟩ => ⟨S1x512x3072, .bf16⟩
  | .local _ .vmem, ⟨12, _⟩ => ⟨S1x512x3072, .bf16⟩
  | .local _ .vmem, ⟨13, _⟩ => ⟨S1x2x512x1024, .bf16⟩
  | .local _ .vmem, ⟨14, _⟩ => ⟨S1x2x512x1024, .bf16⟩
  | .local _ .vmem, ⟨15, _⟩ => ⟨S1x512x2048, .bf16⟩
  | .local _ .vmem, ⟨16, _⟩ => ⟨S1x512x2048, .bf16⟩
  | _, _ => ⟨S2x16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S2x16400x2048 : Shape := ⟨3, ![2, 16400, 2048]⟩
abbrev S1x2048 : Shape := ⟨2, ![1, 2048]⟩
abbrev S2x2048x4096 : Shape := ⟨3, ![2, 2048, 4096]⟩
abbrev S16400x16 : Shape := ⟨2, ![16400, 16]⟩
abbrev S128x256 : Shape := ⟨2, ![128, 256]⟩
abbrev S2048 : Shape := ⟨1, ![2048]⟩
abbrev S_ : Shape := ⟨0, ![]⟩
abbrev S2x16400 : Shape := ⟨2, ![2, 16400]⟩
abbrev S2x16400x1 : Shape := ⟨3, ![2, 16400, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S2x16400x4096 : Shape := ⟨3, ![2, 16400, 4096]⟩
abbrev S2x16400x512 : Shape := ⟨3, ![2, 16400, 512]⟩
abbrev S2x16400x1024 : Shape := ⟨3, ![2, 16400, 1024]⟩
abbrev S2x16400x16x128 : Shape := ⟨4, ![2, 16400, 16, 128]⟩
abbrev S2x16400x16x16 : Shape := ⟨4, ![2, 16400, 16, 16]⟩
abbrev S1x16400x1x16 : Shape := ⟨4, ![1, 16400, 1, 16]⟩
abbrev S2x16400x16x32 : Shape := ⟨4, ![2, 16400, 16, 32]⟩
abbrev S2x16400x16x96 : Shape := ⟨4, ![2, 16400, 16, 96]⟩
abbrev S2x16400x4x128 : Shape := ⟨4, ![2, 16400, 4, 128]⟩
abbrev S2x16400x4x16 : Shape := ⟨4, ![2, 16400, 4, 16]⟩
abbrev S2x16400x4x32 : Shape := ⟨4, ![2, 16400, 4, 32]⟩
abbrev S2x16400x4x96 : Shape := ⟨4, ![2, 16400, 4, 96]⟩
abbrev S2x16400x3072 : Shape := ⟨3, ![2, 16400, 3072]⟩
abbrev S2x16400x8x128 : Shape := ⟨4, ![2, 16400, 8, 128]⟩
abbrev S128x128 : Shape := ⟨2, ![128, 128]⟩
abbrev S2x1x16400x1024 : Shape := ⟨4, ![2, 1, 16400, 1024]⟩
abbrev S2x2x16400x1024 : Shape := ⟨4, ![2, 2, 16400, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x16400x2048, .f32⟩
  | .hbm, ⟨1, _⟩ => ⟨S1x2048, .f32⟩
  | .hbm, ⟨2, _⟩ => ⟨S2x2048x4096, .bf16⟩
  | .hbm, ⟨3, _⟩ => ⟨S16400x16, .f32⟩
  | .hbm, ⟨4, _⟩ => ⟨S16400x16, .f32⟩
  | .hbm, ⟨5, _⟩ => ⟨S128x256, .bf16⟩
  | .hbm, ⟨6, _⟩ => ⟨S2x2048x4096, .f32⟩
  | .hbm, ⟨7, _⟩ => ⟨S128x256, .f32⟩
  | .hbm, ⟨8, _⟩ => ⟨S2048, .f32⟩
  | .hbm, ⟨9, _⟩ => ⟨S2x16400x2048, .f32⟩
  | .hbm, ⟨10, _⟩ => ⟨S_, .f32⟩
  | .hbm, ⟨11, _⟩ => ⟨S2x16400, .f32⟩
  | .hbm, ⟨12, _⟩ => ⟨S2x16400x1, .f32⟩
  | .hbm, ⟨13, _⟩ => ⟨S_, .f32⟩
  | .hbm, ⟨14, _⟩ => ⟨S2x16400x1, .f32⟩
  | .hbm, ⟨15, _⟩ => ⟨S2x16400x1, .f32⟩
  | .hbm, ⟨16, _⟩ => ⟨S_, .f32⟩
  | .hbm, ⟨17, _⟩ => ⟨S2x16400x1, .f32⟩
  | .hbm, ⟨18, _⟩ => ⟨S2x16400x1, .f32⟩
  | .hbm, ⟨19, _⟩ => ⟨S2x16400x1, .f32⟩
  | .hbm, ⟨20, _⟩ => ⟨S2x16400x2048, .f32⟩
  | .hbm, ⟨21, _⟩ => ⟨S2x16400x2048, .f32⟩
  | .hbm, ⟨22, _⟩ => ⟨S1x1x2048, .f32⟩
  | .hbm, ⟨23, _⟩ => ⟨S2x16400x2048, .f32⟩
  | .hbm, ⟨24, _⟩ => ⟨S2x16400x2048, .f32⟩
  | .hbm, ⟨25, _⟩ => ⟨S1x2048x4096, .f32⟩
  | .hbm, ⟨26, _⟩ => ⟨S2048x4096, .f32⟩
  | .hbm, ⟨27, _⟩ => ⟨S2x16400x4096, .f32⟩
  | .hbm, ⟨28, _⟩ => ⟨S2x16400x2048, .f32⟩
  | .hbm, ⟨29, _⟩ => ⟨S2x16400x512, .f32⟩
  | .hbm, ⟨30, _⟩ => ⟨S2x16400x512, .f32⟩
  | .hbm, ⟨31, _⟩ => ⟨S2x16400x1024, .f32⟩
  | .hbm, ⟨32, _⟩ => ⟨S2x16400x16x128, .f32⟩
  | .hbm, ⟨33, _⟩ => ⟨S2x16400x16x16, .f32⟩
  | .hbm, ⟨34, _⟩ => ⟨S2x16400x16x16, .f32⟩
  | .hbm, ⟨35, _⟩ => ⟨S1x16400x1x16, .f32⟩
  | .hbm, ⟨36, _⟩ => ⟨S1x16400x1x16, .f32⟩
  | .hbm, ⟨37, _⟩ => ⟨S2x16400x16x16, .f32⟩
  | .hbm, ⟨38, _⟩ => ⟨S2x16400x16x16, .f32⟩
  | .hbm, ⟨39, _⟩ => ⟨S2x16400x16x16, .f32⟩
  | .hbm, ⟨40, _⟩ => ⟨S2x16400x16x16, .f32⟩
  | .hbm, ⟨41, _⟩ => ⟨S2x16400x16x16, .f32⟩
  | .hbm, ⟨42, _⟩ => ⟨S2x16400x16x16, .f32⟩
  | .hbm, ⟨43, _⟩ => ⟨S2x16400x16x16, .f32⟩
  | .hbm, ⟨44, _⟩ => ⟨S2x16400x16x16, .f32⟩
  | .hbm, ⟨45, _⟩ => ⟨S2x16400x16x16, .f32⟩
  | .hbm, ⟨46, _⟩ => ⟨S2x16400x16x16, .f32⟩
  | .hbm, ⟨47, _⟩ => ⟨S2x16400x16x32, .f32⟩
  | .hbm, ⟨48, _⟩ => ⟨S2x16400x16x96, .f32⟩
  | .hbm, ⟨49, _⟩ => ⟨S2x16400x16x128, .f32⟩
  | .hbm, ⟨50, _⟩ => ⟨S2x16400x4x128, .f32⟩
  | .hbm, ⟨51, _⟩ => ⟨S2x16400x4x16, .f32⟩
  | .hbm, ⟨52, _⟩ => ⟨S2x16400x4x16, .f32⟩
  | .hbm, ⟨53, _⟩ => ⟨S1x16400x1x16, .f32⟩
  | .hbm, ⟨54, _⟩ => ⟨S1x16400x1x16, .f32⟩
  | .hbm, ⟨55, _⟩ => ⟨S2x16400x4x16, .f32⟩
  | .hbm, ⟨56, _⟩ => ⟨S2x16400x4x16, .f32⟩
  | .hbm, ⟨57, _⟩ => ⟨S2x16400x4x16, .f32⟩
  | .hbm, ⟨58, _⟩ => ⟨S2x16400x4x16, .f32⟩
  | .hbm, ⟨59, _⟩ => ⟨S2x16400x4x16, .f32⟩
  | .hbm, ⟨60, _⟩ => ⟨S2x16400x4x16, .f32⟩
  | .hbm, ⟨61, _⟩ => ⟨S2x16400x4x16, .f32⟩
  | .hbm, ⟨62, _⟩ => ⟨S2x16400x4x16, .f32⟩
  | .hbm, ⟨63, _⟩ => ⟨S2x16400x4x16, .f32⟩
  | .hbm, ⟨64, _⟩ => ⟨S2x16400x4x16, .f32⟩
  | .hbm, ⟨65, _⟩ => ⟨S2x16400x4x32, .f32⟩
  | .hbm, ⟨66, _⟩ => ⟨S2x16400x4x96, .f32⟩
  | .hbm, ⟨67, _⟩ => ⟨S2x16400x4x128, .f32⟩
  | .hbm, ⟨68, _⟩ => ⟨S2x16400x2048, .f32⟩
  | .hbm, ⟨69, _⟩ => ⟨S2x16400x512, .f32⟩
  | .hbm, ⟨70, _⟩ => ⟨S2x16400x3072, .f32⟩
  | .hbm, ⟨71, _⟩ => ⟨S2x16400x8x128, .f32⟩
  | .hbm, ⟨72, _⟩ => ⟨S128x128, .f32⟩
  | .hbm, ⟨73, _⟩ => ⟨S2x16400x8x128, .f32⟩
  | .hbm, ⟨74, _⟩ => ⟨S128x128, .f32⟩
  | .hbm, ⟨75, _⟩ => ⟨S2x16400x8x128, .f32⟩
  | .hbm, ⟨76, _⟩ => ⟨S2x16400x1024, .f32⟩
  | .hbm, ⟨77, _⟩ => ⟨S2x16400x1024, .f32⟩
  | .hbm, ⟨78, _⟩ => ⟨S2x1x16400x1024, .f32⟩
  | .hbm, ⟨79, _⟩ => ⟨S2x1x16400x1024, .f32⟩
  | .hbm, ⟨80, _⟩ => ⟨S2x2x16400x1024, .f32⟩
  | .hbm, ⟨81, _⟩ => ⟨S2x16400x3072, .bf16⟩
  | .hbm, ⟨82, _⟩ => ⟨S2x2x16400x1024, .bf16⟩
  | .hbm, ⟨83, _⟩ => ⟨S2x16400x2048, .bf16⟩
  | _, _ => ⟨S2x16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩

abbrev nD : Nat := 1
abbrev τ : Topo := Topo.v7x

variable {F : FTy → Type} [FloatOps F]
-- ==== Proof.FfnStep.lean ====
/-
  The feed-forward kernel, one grid point at a time: what each of its three cases leaves in the output block and in the
  carried scratch, as the body's own named payloads over the point's input blocks.
-/
module

public import proofs.«01_k».proof.Proof.Gen.Kernel2Ideal.Value

@[expose] public section

noncomputable section

namespace Cert.Kernel2Ideal.Ffn

open Cert.Kernel2Ideal Cert.Kernel2Ideal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The first 256 columns of a weight block. -/
def lo (w : Vec F S1x2048x512 .bf16) : Vec F S1x2048x256 .bf16 :=
  View.ld w (Rect.unit (s := S1x2048x512) ![0, 0, 0] S1x2048x256.size inb_S1x2048x512_S1x2048x256_0_0_0)
/-- The last 256 columns of a weight block. -/
def hi (w : Vec F S1x2048x512 .bf16) : Vec F S1x2048x256 .bf16 :=
  View.ld w (Rect.unit (s := S1x2048x512) ![0, 0, 256] S1x2048x256.size inb_S1x2048x512_S1x2048x256_0_0_256)

/-- One accumulation: the output block `o` plus the activations of `xn` through `wg`, `wu`, times `wd`. -/
def accum (xn : Vec F S1024x2048 .bf16) (wg wu : Vec F S1x2048x512 .bf16) (wd : Vec F S1x512x2048 .bf16)
    (o : Vec F S1x1024x2048 .f32) : Vec F S1x1024x2048 .f32 :=
  k0_pay1 (k0_pay6 xn (lo wg) xn (lo wu)) (k0_pay7 xn (hi wg) xn (hi wu)) (Scalar.ofBits .f32 0x3F000000#32) o wd

section
variable (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x2048 .f32) (harg8 : arg8.IsWhole) (arg9 : Memref sig .tc .vmem S1x1024x2048 .f32) (harg9 : arg9.IsWhole) (arg10 : Memref sig .tc .vmem S1024x2048 .bf16) (harg10 : arg10.IsWhole)
variable (x0 : Vec F S1x1024x2048 .f32) (x1 : Vec F S1x2048 .f32) (x2 : Vec F S1x2048x512 .bf16) (x3 : Vec F S1x2048x512 .bf16) (x4 : Vec F S1x512x2048 .bf16) (x5 : Vec F S1x2048 .f32) (xo6 : Vec F S1x1024x2048 .f32) (xs0 : Vec F S1024x2048 .bf16)

/-- A middle point adds its chunk to the output block. -/
theorem out_B (hc0 : ¬cond0_0 i) (hc1 : ¬cond0_1 i) :
    out0_B_6 c i arg3 harg3 arg4 harg4 arg5 harg5 arg6 harg6 arg7 harg7 arg8 harg8 arg9 harg9 arg10 harg10 hc0 hc1 x0 x1 x2 x3 x4 x5 xo6 xs0
      = accum xs0 x2 x3 x4 xo6 := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xo6 xs0)]
  unfold kernelRun0_B
  dsimp only
  sl_unfold_words
  rw [View.canon_unit_zero hz3]
  simp only [View.readAt_eq_ld, harg5.read_unread, harg6.read_unread, harg7.read_unread, harg9.read_unread, harg10.read_unread,
    View.ld_unit_zero (S := S1x1024x2048) hz3, View.ld_unit_zero (S := S1x512x2048) hz3, View.ld_unit_zero (S := S1024x2048) hz2]
  rfl

/-- The last point of a row block adds its chunk and applies the final norm. -/
theorem out_C (hc0 : ¬cond0_0 i) (hc1 : cond0_1 i) :
    out0_C_6 c i arg3 harg3 arg4 harg4 arg5 harg5 arg6 harg6 arg7 harg7 arg8 harg8 arg9 harg9 arg10 harg10 hc0 hc1 x0 x1 x2 x3 x4 x5 xo6 xs0
      = k0_pay2 (accum xs0 x2 x3 x4 xo6) x5 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xo6 xs0)]
  unfold kernelRun0_C
  dsimp only
  sl_unfold_words
  rw [View.canon_cons_unit_zero (S := S1x1024x2048) hz3, View.readCov_unit_zero (S := S1x1024x2048) _ hz3]
  simp only [View.readAt_eq_ld, harg5.read_unread, harg6.read_unread, harg7.read_unread, harg8.read_unread, harg9.read_unread, harg10.read_unread,
    View.ld_unit_zero (S := S1x1024x2048) hz3, View.ld_unit_zero (S := S1x512x2048) hz3, View.ld_unit_zero (S := S1024x2048) hz2, View.ld_unit_zero (S := S1x2048) hz2]
  rfl

/-- The first point of a row block starts from the rows themselves, with the norm it has just stored. -/
theorem out_A (hc0 : cond0_0 i) (hc1 : ¬cond0_1 i) :
    out0_A_6 c i arg3 harg3 arg4 harg4 arg5 harg5 arg6 harg6 arg7 harg7 arg8 harg8 arg9 harg9 arg10 harg10 hc0 hc1 x0 x1 x2 x3 x4 x5
      = accum (k0_pay4 x0 x1) x2 x3 x4 (k0_pay5 x0) := by
  unfold out0_A_6
  rw [View.read_writes_eq_canon _ _ _ (cover0_A_6 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1024x2048) hz3]
  simp only [View.readCov_unit_zero (S := S1x1024x2048) _ hz3, View.readCov_unit_zero (S := S1024x2048) _ hz2,
    View.readAt_eq_ld, harg3.read_unread, harg4.read_unread, harg5.read_unread, harg6.read_unread, harg7.read_unread, harg8.read_unread, harg9.read_unread, harg10.read_unread,
    View.ld_unit_zero (S := S1x1024x2048) hz3, View.ld_unit_zero (S := S1x512x2048) hz3, View.ld_unit_zero (S := S1024x2048) hz2, View.ld_unit_zero (S := S1x2048) hz2]
  rfl

/-- The first point of a row block leaves the scaled rows in the scratch. -/
theorem sout_A (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 x5
      = k0_pay4 x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero hz2]
  simp only [View.readAt_eq_ld, harg3.read_unread, harg4.read_unread,
    View.ld_unit_zero (S := S1x1024x2048) hz3, View.ld_unit_zero (S := S1x2048) hz2]
end

end Cert.Kernel2Ideal.Ffn

end
-- ==== Proof.FfnValue.lean ====
/-
  The feed-forward kernel's value: a row block's eleven points leave the final norm of the rows plus half the gated
  product, summed over the whole hidden axis.
-/
module

public import proofs.«01_k».proof.Proof.FfnStep
public import Idealize.ShloMosaic.Lib.Pointwise
public import Idealize.ShloMosaic.Lib.ValueIdx

@[expose] public section

noncomputable section

namespace Cert.Kernel2Ideal.Ffn

open Cert.Kernel2Ideal Cert.Kernel2Ideal.Gen Idealize.ShloMosaic Idealize.ShloMosaic.TcCoe Idealize.SL.Sem

/-! ## Rows -/

/-- One entry of a row scaled by its root mean square and a gain. -/
def norm (x g : Fin 2048 → EReal) (d : Fin 2048) : EReal :=
  x d * Ideal.rsqrt (Ideal.div (∑ k, x k * x k) (Ideal.ofBits .f32 1157627904#32) + Ideal.ofBits .f32 897988541#32) * g d

/-- One hidden unit's gated activation of a row. -/
def act (x wg wu : Fin 2048 → EReal) : EReal :=
  (∑ k, x k * wg k) * Ideal.logistic (∑ k, x k * wg k) * ∑ k, x k * wu k

/-- The half. -/
abbrev half : EReal := Ideal.ofBits .f32 1056964608#32

/-- Hidden unit `k` of the layer's second weight set, its half-weighted share of the output entry `d` (nothing past the last unit). -/
def term (wg wu : Vec Ideal S2x2048x5632 .bf16) (wd : Vec Ideal S2x5632x2048 .bf16) (xn : Fin 2048 → EReal) (d : Fin 2048) (k : ℕ) : EReal :=
  if h : k < 5632 then
    act xn (fun x => wg (ix3 1 x ⟨k, h⟩)) (fun x => wu (ix3 1 x ⟨k, h⟩)) * half * wd (ix3 1 ⟨k, h⟩ d)
  else 0

/-! ## The payloads, entry by entry -/

theorem pay4_apply (x0 : Vec Ideal S1x1024x2048 .f32) (x1 : Vec Ideal S1x2048 .f32) (r : Fin 1024) (d : Fin 2048) :
    k0_pay4 x0 x1 (ix2 r d) = norm (fun k => x0 (ix3 0 r k)) (fun k => x1 (ix2 0 k)) d := by
  unfold k0_pay4 k0_pay3
  pointwise
  rfl

theorem pay5_eq (x0 : Vec Ideal S1x1024x2048 .f32) : k0_pay5 x0 = x0 := by
  unfold k0_pay5 k0_pay3
  simp only [shapeCast_self]
  funext i
  obtain ⟨a, r, d, rfl⟩ : ∃ (a : Fin 1) (r : Fin 1024) (d : Fin 2048), i = ix3 a r d := ⟨i 0, i 1, i 2, by funext a; fin_cases a <;> rfl⟩
  obtain rfl : a = 0 := Subsingleton.elim _ _
  pointwise

theorem pay2_apply (x0 : Vec Ideal S1x1024x2048 .f32) (x1 : Vec Ideal S1x2048 .f32) (r : Fin 1024) (d : Fin 2048) :
    k0_pay2 x0 x1 (ix3 0 r d) = norm (fun k => x0 (ix3 0 r k)) (fun k => x1 (ix2 0 k)) d := by
  unfold k0_pay2
  simp only [shapeCast_self]
  pointwise
  rfl

theorem pay6_apply (xn : Vec Ideal S1024x2048 .bf16) (w w' : Vec Ideal S1x2048x512 .bf16) (r : Fin 1024) (f : Fin 256) :
    k0_pay6 xn (lo w) xn (lo w') (ix2 r f)
      = act (fun k => xn (ix2 r k)) (fun k => w (ix3 0 k ⟨f.val, by omega⟩)) (fun k => w' (ix3 0 k ⟨f.val, by omega⟩)) * half := by
  unfold k0_pay6 lo
  simp only [shapeCast_self]
  pointwise
  rfl

theorem pay7_apply (xn : Vec Ideal S1024x2048 .bf16) (w w' : Vec Ideal S1x2048x512 .bf16) (r : Fin 1024) (f : Fin 256) :
    k0_pay7 xn (hi w) xn (hi w') (ix2 r f)
      = act (fun k => xn (ix2 r k)) (fun k => w (ix3 0 k ⟨256 + f.val, by omega⟩)) (fun k => w' (ix3 0 k ⟨256 + f.val, by omega⟩)) := by
  unfold k0_pay7 hi
  simp only [shapeCast_self]
  pointwise
  rfl

/-- Hidden unit `k` of one chunk's blocks, its half-weighted share of the output entry `d`. -/
def chunkTerm (wg wu : Vec Ideal S1x2048x512 .bf16) (wd : Vec Ideal S1x512x2048 .bf16) (xn : Fin 2048 → EReal) (d : Fin 2048) (k : ℕ) : EReal :=
  if h : k < 512 then
    act xn (fun x => wg (ix3 0 x ⟨k, h⟩)) (fun x => wu (ix3 0 x ⟨k, h⟩)) * half * wd (ix3 0 ⟨k, h⟩ d)
  else 0

theorem accum_apply (xn : Vec Ideal S1024x2048 .bf16) (wg wu : Vec Ideal S1x2048x512 .bf16) (wd : Vec Ideal S1x512x2048 .bf16)
    (o : Vec Ideal S1x1024x2048 .f32) (r : Fin 1024) (d : Fin 2048) :
    accum xn wg wu wd o (ix3 0 r d)
      = o (ix3 0 r d) + ∑ k ∈ Finset.range 512, chunkTerm wg wu wd (fun k => xn (ix2 r k)) d k := by
  unfold accum k0_pay1
  simp only [shapeCast_self]
  pointwise
  congr 1
  refine Eq.trans ?_ (Finset.sum_range_add (fun k => chunkTerm wg wu wd (fun k => xn (ix2 r k)) d k) 256 256).symm
  rw [Finset.sum_range, Finset.sum_range]
  congr 1
  · refine Finset.sum_congr rfl fun f _ => ?_
    rw [pay6_apply]
    unfold chunkTerm
    rw [dif_pos (show f.val < 512 by omega)]
  · refine Finset.sum_congr rfl fun f _ => ?_
    rw [pay7_apply]
    unfold chunkTerm
    rw [dif_pos (show 256 + f.val < 512 by omega)]

/-! ## The blocks a point reads -/

variable (m : (ℓ : Loc nD τ sig) → Buf (Elt Ideal) ℓ) (c : Dev nD)

abbrev H : Vec Ideal S2x16400x2048 .f32 := m ((c : Thread nD τ).loc main_arg0)
abbrev Gn : Vec Ideal S1x2048 .f32 := m ((c : Thread nD τ).loc main_arg1)
abbrev Wg : Vec Ideal S2x2048x5632 .bf16 := m ((c : Thread nD τ).loc main_arg2)
abbrev Wu : Vec Ideal S2x2048x5632 .bf16 := m ((c : Thread nD τ).loc main_arg3)
abbrev Wd : Vec Ideal S2x5632x2048 .bf16 := m ((c : Thread nD τ).loc main_arg4)
abbrev Gf : Vec Ideal S1x2048 .f32 := m ((c : Thread nD τ).loc main_arg5)

theorem idx_facts : ∀ t : Fin cfg0.N,
    (win0_0.index t (0 : Fin 3) = t.val / 11 / 16 ∧ win0_0.index t (1 : Fin 3) = t.val / 11 % 16 ∧ win0_0.index t (2 : Fin 3) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = t.val % 11)
    ∧ (win0_3.index t (0 : Fin 3) = 1 ∧ win0_3.index t (1 : Fin 3) = 0 ∧ win0_3.index t (2 : Fin 3) = t.val % 11)
    ∧ (win0_4.index t (0 : Fin 3) = 1 ∧ win0_4.index t (1 : Fin 3) = t.val % 11 ∧ win0_4.index t (2 : Fin 3) = 0)
    ∧ (win0_5.index t (0 : Fin 2) = 0 ∧ win0_5.index t (1 : Fin 2) = 0) :=
  (by decide +kernel : ∀ t : Fin grid0.N, _)

theorem X0_apply (t : Fin cfg0.N) (r : Fin 1024) (d : Fin 2048) (hb : t.val / 11 / 16 < 2) (hr : 1024 * (t.val / 11 % 16) + r.val < 16400) :
    (X0_0 m c t : Vec Ideal S1x1024x2048 .f32) (ix3 0 r d) = H m c (ix3 ⟨t.val / 11 / 16, hb⟩ ⟨1024 * (t.val / 11 % 16) + r.val, hr⟩ d) := by
  obtain ⟨⟨e0, e1, e2⟩, -⟩ := idx_facts t
  show (cfg0.win 0).fill (cfg0.grid.coords t) dflt0_0 (iblk m c 0 t) (ix3 0 r d) = _
  unfold Pipeline.Window.fill
  rw [dif_pos (moved0_0 t _)]
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * 0 = t.val / 11 / 16; omega
  | ⟨1, _⟩ => show win0_0.index t (1 : Fin 3) * 1024 + 1 * r.val = 1024 * (t.val / 11 % 16) + r.val; omega
  | ⟨2, _⟩ => show win0_0.index t (2 : Fin 3) * 2048 + 1 * d.val = d.val; omega

theorem blk1_apply (t : Fin cfg0.N) (d : Fin 2048) : (iblk m c 1 t : Vec Ideal S1x2048 .f32) (ix2 0 d) = Gn m c (ix2 0 d) := by
  obtain ⟨-, ⟨e0, e1⟩, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 1 + 1 * 0 = 0; omega
  | ⟨1, _⟩ => show win0_1.index t (1 : Fin 2) * 2048 + 1 * d.val = d.val; omega

theorem blk5_apply (t : Fin cfg0.N) (d : Fin 2048) : (iblk m c 5 t : Vec Ideal S1x2048 .f32) (ix2 0 d) = Gf m c (ix2 0 d) := by
  obtain ⟨-, -, -, -, -, ⟨e0, e1⟩⟩ := idx_facts t
  unfold iblk
  rw [View.read_apply]
  show m ((c : Thread nD τ).loc main_arg5) _ = m ((c : Thread nD τ).loc main_arg5) _
  congr 1
  funext a
  apply Fin.ext
  match a with
  | ⟨0, _⟩ => show win0_5.index t (0 : Fin 2) * 1 + 1 * 0 = 0; omega
  | ⟨1, _⟩ => show win0_5.index t (1 : Fin 2) * 2048 + 1 * d.val = d.val; omega

theorem blk2_apply (t : Fin cfg0.N) (x : Fin 2048) (f : Fin 512) (h : 512 * (t.val % 11) + f.val < 5632) :
    (iblk m c 2 t : Vec Ideal S1x2048x512 .bf16) (ix3 0 x f) = Wg m c (ix3 1 x ⟨512 * (t.val % 11) + f.val, h⟩) := by
  obtain ⟨-, -, ⟨e0, e1, e2⟩, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 3) * 1 + 1 * 0 = 1; omega
  | ⟨1, _⟩ => show win0_2.index t (1 : Fin 3) * 2048 + 1 * x.val = x.val; omega
  | ⟨2, _⟩ => show win0_2.index t (2 : Fin 3) * 512 + 1 * f.val = 512 * (t.val % 11) + f.val; omega

theorem blk3_apply (t : Fin cfg0.N) (x : Fin 2048) (f : Fin 512) (h : 512 * (t.val % 11) + f.val < 5632) :
    (iblk m c 3 t : Vec Ideal S1x2048x512 .bf16) (ix3 0 x f) = Wu m c (ix3 1 x ⟨512 * (t.val % 11) + f.val, h⟩) := by
  obtain ⟨-, -, -, ⟨e0, e1, e2⟩, -⟩ := idx_facts t
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 3) * 1 + 1 * 0 = 1; omega
  | ⟨1, _⟩ => show win0_3.index t (1 : Fin 3) * 2048 + 1 * x.val = x.val; omega
  | ⟨2, _⟩ => show win0_3.index t (2 : Fin 3) * 512 + 1 * f.val = 512 * (t.val % 11) + f.val; omega

theorem blk4_apply (t : Fin cfg0.N) (f : Fin 512) (d : Fin 2048) (h : 512 * (t.val % 11) + f.val < 5632) :
    (iblk m c 4 t : Vec Ideal S1x512x2048 .bf16) (ix3 0 f d) = Wd m c (ix3 1 ⟨512 * (t.val % 11) + f.val, h⟩ d) := by
  obtain ⟨-, -, -, -, ⟨e0, e1, e2⟩, -⟩ := idx_facts t
  unfold iblk
  rw [View.read_apply]
  show m ((c : Thread nD τ).loc main_arg4) _ = m ((c : Thread nD τ).loc main_arg4) _
  congr 1
  funext a
  apply Fin.ext
  match a with
  | ⟨0, _⟩ => show win0_4.index t (0 : Fin 3) * 1 + 1 * 0 = 1; omega
  | ⟨1, _⟩ => show win0_4.index t (1 : Fin 3) * 512 + 1 * f.val = 512 * (t.val % 11) + f.val; omega
  | ⟨2, _⟩ => show win0_4.index t (2 : Fin 3) * 2048 + 1 * d.val = d.val; omega

/-- A point's chunk is 512 consecutive hidden units. -/
theorem chunkTerm_eq (t : Fin cfg0.N) (xn : Fin 2048 → EReal) (d : Fin 2048) (k : ℕ) (hk : k < 512) :
    chunkTerm (iblk m c 2 t) (iblk m c 3 t) (iblk m c 4 t) xn d k = term (Wg m c) (Wu m c) (Wd m c) xn d (512 * (t.val % 11) + k) := by
  have h : 512 * (t.val % 11) + k < 5632 := by omega
  unfold chunkTerm term
  rw [dif_pos hk, dif_pos h, blk4_apply m c t ⟨k, hk⟩ d h]
  simp only [blk2_apply m c t _ ⟨k, hk⟩ h, blk3_apply m c t _ ⟨k, hk⟩ h]

/-! ## A row block's points, folded -/

/-- The row of the residual stream that a row block's row `r` is (zero outside the array). -/
def row (q : ℕ) (r : Fin 1024) (d : Fin 2048) : EReal :=
  if h : q / 16 < 2 ∧ 1024 * (q % 16) + r.val < 16400 then H m c (ix3 ⟨q / 16, h.1⟩ ⟨1024 * (q % 16) + r.val, h.2⟩ d) else 0

/-- That row normed. -/
def nrow (q : ℕ) (r : Fin 1024) : Fin 2048 → EReal := norm (row m c q r) (fun k => Gn m c (ix2 0 k))

/-- The row plus the shares of the first `n` hidden units. -/
def running (q : ℕ) (r : Fin 1024) (n : ℕ) (d : Fin 2048) : EReal :=
  row m c q r d + ∑ k ∈ Finset.range n, term (Wg m c) (Wu m c) (Wd m c) (nrow m c q r) d k

theorem X0_row (t : Fin cfg0.N) (r : Fin 1024) (d : Fin 2048) :
    (X0_0 m c t : Vec Ideal S1x1024x2048 .f32) (ix3 0 r d) = row m c (t.val / 11) r d := by
  have hN : t.val < 352 := lt_of_lt_of_eq t.isLt N_0
  have h : t.val / 11 / 16 < 2 ∧ 1024 * (t.val / 11 % 16) + r.val < 16400 := ⟨by omega, by omega⟩
  unfold row
  rw [dif_pos h, X0_apply m c t r d h.1 h.2]

theorem accum_step (t : Fin cfg0.N) (xn : Vec Ideal S1024x2048 .bf16) (o : Vec Ideal S1x1024x2048 .f32)
    (hxn : ∀ r d, xn (ix2 r d) = nrow m c (t.val / 11) r d)
    (ho : ∀ r d, o (ix3 0 r d) = running m c (t.val / 11) r (512 * (t.val % 11)) d) (r : Fin 1024) (d : Fin 2048) :
    accum xn (iblk m c 2 t) (iblk m c 3 t) (iblk m c 4 t) o (ix3 0 r d) = running m c (t.val / 11) r (512 * (t.val % 11 + 1)) d := by
  rw [accum_apply, ho]
  unfold running
  rw [add_assoc, Nat.mul_add, Nat.mul_one, Finset.sum_range_add]
  congr 2
  refine Finset.sum_congr rfl fun k hk => ?_
  rw [show (fun k => xn (ix2 r k)) = nrow m c (t.val / 11) r from funext fun k => hxn r k]
  exact chunkTerm_eq m c t _ d k (Finset.mem_range.mp hk)

/-- The first point of a row block. -/
theorem outs_A (t : Fin cfg0.N) (h0 : t.val % 11 = 0) (h1 : ¬t.val % 11 = 10) :
    outsAt0 m c t.val t.isLt = (accum (k0_pay4 (X0_0 m c t) (iblk m c 1 t)) (iblk m c 2 t) (iblk m c 3 t) (iblk m c 4 t) (k0_pay5 (X0_0 m c t)),
      k0_pay4 (X0_0 m c t) (iblk m c 1 t)) :=
  (outsAt0_A m c t h0 h1).trans (congrArg₂ Prod.mk (out_A ..) (sout_A ..))

/-- A middle point of a row block. -/
theorem outs_B (t : Fin cfg0.N) (h0 : ¬t.val % 11 = 0) (h1 : ¬t.val % 11 = 10) (h : t.val - 1 < cfg0.N) :
    outsAt0 m c t.val t.isLt = (accum (outsAt0 m c (t.val - 1) h).2 (iblk m c 2 t) (iblk m c 3 t) (iblk m c 4 t) (outsAt0 m c (t.val - 1) h).1,
      (outsAt0 m c (t.val - 1) h).2) :=
  (outsAt0_B m c t h0 h1).trans (congrArg₂ Prod.mk (out_B ..) rfl)

/-- The last point of a row block. -/
theorem outs_C (t : Fin cfg0.N) (h0 : ¬t.val % 11 = 0) (h1 : t.val % 11 = 10) (h : t.val - 1 < cfg0.N) :
    outsAt0 m c t.val t.isLt = (k0_pay2 (accum (outsAt0 m c (t.val - 1) h).2 (iblk m c 2 t) (iblk m c 3 t) (iblk m c 4 t) (outsAt0 m c (t.val - 1) h).1) (iblk m c 5 t),
      (outsAt0 m c (t.val - 1) h).2) :=
  (outsAt0_C m c t h0 h1).trans (congrArg₂ Prod.mk (out_C ..) rfl)

/-- What the points of a row block leave: the normed rows in the scratch, the running sum in the output block, and after the last
    point its final norm. -/
theorem fold (n : ℕ) : ∀ hn : n < cfg0.N,
    (∀ r d, (outsAt0 m c n hn).2 (ix2 r d) = nrow m c (n / 11) r d)
    ∧ (n % 11 < 10 → ∀ r d, (outsAt0 m c n hn).1 (ix3 0 r d) = running m c (n / 11) r (512 * (n % 11 + 1)) d)
    ∧ (n % 11 = 10 → ∀ r d, (outsAt0 m c n hn).1 (ix3 0 r d)
        = norm (running m c (n / 11) r 5632) (fun k => Gf m c (ix2 0 k)) d) := by
  induction n using Nat.strong_induction_on with
  | _ n ih =>
    intro hn
    have hA : n % 11 = 0 → (∀ r d, (k0_pay4 (X0_0 m c ⟨n, hn⟩) (iblk m c 1 ⟨n, hn⟩) : Vec Ideal S1024x2048 .bf16) (ix2 r d) = nrow m c (n / 11) r d) := by
      intro _ r d
      rw [pay4_apply]
      unfold nrow
      congr 1
      · exact funext fun k => X0_row m c ⟨n, hn⟩ r k
      · exact funext fun k => blk1_apply m c ⟨n, hn⟩ k
    by_cases h0 : n % 11 = 0
    · have h1 : ¬ n % 11 = 10 := by omega
      rw [outs_A m c ⟨n, hn⟩ h0 h1]
      refine ⟨fun r d => ?_, fun _ r d => ?_, fun h => absurd h h1⟩
      · exact hA h0 r d
      · dsimp only
        rw [pay5_eq]
        refine accum_step m c ⟨n, hn⟩ _ _ (hA h0) (fun r d => ?_) r d
        show _ = running m c (n / 11) r (512 * (n % 11)) d
        rw [h0]
        unfold running
        rw [Nat.mul_zero, Finset.range_zero, Finset.sum_empty, add_zero]
        exact X0_row m c ⟨n, hn⟩ r d
    · have hn' : n - 1 < cfg0.N := Nat.lt_of_le_of_lt (Nat.sub_le _ _) hn
      obtain ⟨i2, i1, -⟩ := ih (n - 1) (by omega) hn'
      have ed : (n - 1) / 11 = n / 11 := by omega
      have em : (n - 1) % 11 + 1 = n % 11 := by omega
      rw [ed] at i2 i1
      rw [em] at i1
      have i1 := i1 (by omega)
      have hacc := accum_step m c ⟨n, hn⟩ _ _ i2 i1
      by_cases h1 : n % 11 = 10
      · rw [outs_C m c ⟨n, hn⟩ h0 h1 hn']
        refine ⟨i2, fun h => absurd h1 (by omega), fun _ r d => ?_⟩
        dsimp only
        rw [pay2_apply]
        congr 1
        · funext k
          rw [hacc r k]
          show running m c (n / 11) r (512 * (n % 11 + 1)) k = _
          rw [h1]
        · exact funext fun k => blk5_apply m c ⟨n, hn⟩ k
      · rw [outs_B m c ⟨n, hn⟩ h0 h1 hn']
        refine ⟨i2, fun _ r d => ?_, fun h => absurd h h1⟩
        exact hacc r d

/-- The result array, entry by entry. -/
theorem result_apply (b : Fin 2) (t : Fin 16384) (d : Fin 2048) :
    Value.G6 m c (ix3 b t d)
      = norm (fun e => H m c (ix3 b ⟨t.val, by omega⟩ e)
          + ∑ k ∈ Finset.range 5632, term (Wg m c) (Wu m c) (Wd m c)
              (norm (fun x => H m c (ix3 b ⟨t.val, by omega⟩ x)) (fun x => Gn m c (ix2 0 x))) e k)
        (fun e => Gf m c (ix2 0 e)) d := by
  have hN : cfg0.N = 352 := N_0
  have hq : Value.run6Of (ix3 b t d) = 16 * b.val + t.val / 1024 := by
    show 16 * (b.val / 1 - 0) + 1 * (t.val / 1024 - 0) + 1 * (d.val / 2048 - 0) = _
    omega
  have hp : Value.pt6Of (ix3 b t d) < cfg0.N := by
    show 11 * Value.run6Of (ix3 b t d) + 10 < cfg0.N
    omega
  have hl : Value.loc6Of (ix3 b t d) = ix3 0 ⟨t.val % 1024, by omega⟩ d := by
    funext a
    apply Fin.ext
    match a with
    | ⟨0, _⟩ => show b.val % 1 = 0; omega
    | ⟨1, _⟩ => rfl
    | ⟨2, _⟩ => show d.val % 2048 = d.val; omega
  unfold Value.G6
  rw [dif_pos hp, ← Value.outsAt0_sweep m c _ hp, hl]
  have e1 : Value.pt6Of (ix3 b t d) / 11 = 16 * b.val + t.val / 1024 := by
    show (11 * Value.run6Of (ix3 b t d) + 10) / 11 = _
    omega
  have e2 : Value.pt6Of (ix3 b t d) % 11 = 10 := by
    show (11 * Value.run6Of (ix3 b t d) + 10) % 11 = _
    omega
  rw [(fold m c _ hp).2.2 e2, e1]
  have hrow : row m c (16 * b.val + t.val / 1024) ⟨t.val % 1024, by omega⟩ = fun e => H m c (ix3 b ⟨t.val, by omega⟩ e) := by
    funext e
    unfold row
    rw [dif_pos ⟨by omega, by show 1024 * ((16 * b.val + t.val / 1024) % 16) + t.val % 1024 < 16400; omega⟩]
    congr 2
    · exact Fin.ext (by show (16 * b.val + t.val / 1024) / 16 = b.val; omega)
    · exact Fin.ext (by show 1024 * ((16 * b.val + t.val / 1024) % 16) + t.val % 1024 = t.val; omega)
  unfold running nrow
  rw [hrow]

end Cert.Kernel2Ideal.Ffn

end
-- ==== Proof.FfnClaim.lean ====
/-
  The feed-forward part's value claim: the reference's stages read entry by entry, and the two results equal.
-/
module

public import proofs.«01_k».proof.Proof.FfnValue
public import proofs.«01_k».proof.Proof.Gen.Reference2Ideal.Read
public import proofs.«01_k».proof.Defs

@[expose] public section

noncomputable section

namespace Cert.Reference2Ideal.Read

open Cert.Reference2Ideal Cert.Reference2Ideal.Gen Idealize.ShloMosaic Idealize.ShloMosaic.TcCoe Idealize.SL.Sem
open Cert.Kernel2Ideal.Ffn (norm act half term)

variable (x0 : (⟨S2x16400x2048, .f32⟩ : BufTy).Contents (Elt Ideal)) (x1 : (⟨S1x2048, .f32⟩ : BufTy).Contents (Elt Ideal))
  (x2 x3 : (⟨S2x2048x5632, .bf16⟩ : BufTy).Contents (Elt Ideal)) (x4 : (⟨S2x5632x2048, .bf16⟩ : BufTy).Contents (Elt Ideal))
  (x5 : (⟨S1x2048, .f32⟩ : BufTy).Contents (Elt Ideal))

theorem norm_apply (b : Fin 2) (t : Fin 16400) (d : Fin 2048) :
    val_main_v16 (F := Ideal) x0 x1 (ix3 b t d) = norm (fun k => x0 (ix3 b t k)) (fun k => x1 (ix2 0 k)) d := by
  pointwise [val_main_v16, val_main_v15, val_main_v14, val_main_v3, val_main_v13, val_main_v12, val_main_v11, val_main_v10, val_main_v9, val_main_v8, val_main_v7, val_main_v6, val_main_v5, val_main_v4, val_main_cst, val_main_cst_0, val_main_cst_1]
  rfl

theorem act_apply (b : Fin 2) (t : Fin 16400) (f : Fin 5632) :
    val_main_v26 (F := Ideal) x0 x1 x2 x3 (ix3 b t f)
      = act (norm (fun k => x0 (ix3 b t k)) (fun k => x1 (ix2 0 k))) (fun k => x2 (ix3 1 k f)) (fun k => x3 (ix3 1 k f)) := by
  pointwise [val_main_v26, val_main_v25, val_main_v24, val_main_v23, val_main_v20, val_main_v19, val_main_v18, val_main_v17, val_main_v0, val_main_v1, val_main_call0_v5, val_main_call0_v4, val_main_call0_v3, val_main_call0_v2, val_main_call0_v1, val_main_call0_v0, val_main_call0_cst, val_main_call0_cst_0]
  simp only [norm_apply]
  rfl

theorem half_eq : half = ((1 / 2 : ℝ) : EReal) := by
  simp [half, Ideal.ofBits, Ideal.ieee]
  rw [← EReal.coe_mul]
  norm_num

theorem half_nonneg : 0 ≤ half := by
  rw [half_eq]; exact_mod_cast (by norm_num : (0 : ℝ) ≤ 1 / 2)

theorem half_ne_top : half ≠ ⊤ := by
  rw [half_eq]; exact EReal.coe_ne_top _

/-- A nonnegative finite factor goes through a finite sum. -/
theorem mul_sum_of_nonneg {ι : Type} {a : EReal} (h0 : 0 ≤ a) (h1 : a ≠ ⊤) (s : Finset ι) (f : ι → EReal) :
    a * ∑ k ∈ s, f k = ∑ k ∈ s, a * f k := by
  classical
  induction s using Finset.induction_on with
  | empty => simp
  | insert k s hk ih => rw [Finset.sum_insert hk, Finset.sum_insert hk, EReal.left_distrib_of_nonneg_of_ne_top h0 h1, ih]

theorem residual_apply (b : Fin 2) (t : Fin 16400) (d : Fin 2048) :
    val_main_v30 (F := Ideal) x0 x1 x2 x3 x4 (ix3 b t d)
      = x0 (ix3 b t d) + ∑ k ∈ Finset.range 5632, term x2 x3 x4 (norm (fun k => x0 (ix3 b t k)) (fun k => x1 (ix2 0 k))) d k := by
  pointwise [val_main_v30, val_main_v29, val_main_v28, val_main_cst_2, val_main_v27, val_main_v22, val_main_v21, val_main_v2]
  refine congrArg (x0 (ix3 b t d) + ·) ?_
  rw [mul_sum_of_nonneg half_nonneg half_ne_top, Finset.sum_range]
  refine Finset.sum_congr rfl fun f _ => ?_
  rw [act_apply]
  unfold term
  rw [dif_pos f.isLt, mul_comm _ half, mul_assoc]

theorem result_apply (b : Fin 2) (t : Fin 16384) (d : Fin 2048) :
    val_main_v45 (F := Ideal) x0 x1 x2 x3 x4 x5 (ix3 b t d)
      = norm (fun e => x0 (ix3 b ⟨t.val, by omega⟩ e)
          + ∑ k ∈ Finset.range 5632, term x2 x3 x4 (norm (fun x => x0 (ix3 b ⟨t.val, by omega⟩ x)) (fun x => x1 (ix2 0 x))) e k)
        (fun e => x5 (ix2 0 e)) d := by
  have hy : (fun e => x0 (ix3 b ⟨t.val, by omega⟩ e)
      + ∑ k ∈ Finset.range 5632, term x2 x3 x4 (norm (fun x => x0 (ix3 b ⟨t.val, by omega⟩ x)) (fun x => x1 (ix2 0 x))) e k)
      = fun e => val_main_v30 (F := Ideal) x0 x1 x2 x3 x4 (ix3 b ⟨t.val, by omega⟩ e) :=
    funext fun e => (residual_apply x0 x1 x2 x3 x4 b _ e).symm
  rw [hy]
  unfold val_main_v45 val_main_v44 val_main_v41 val_main_v40 val_main_v39 val_main_v38 val_main_v36 val_main_v34 val_main_v33 val_main_v32
  generalize val_main_v30 (F := Ideal) x0 x1 x2 x3 x4 = y
  pointwise [val_main_v43, val_main_v42, val_main_v37, val_main_v35, val_main_v31, val_main_cst_3, val_main_cst_4, val_main_cst_5]
  rfl

end Cert.Reference2Ideal.Read

namespace Cert.Kernel2Ideal.Ffn

open Idealize.ShloMosaic Idealize.ShloMosaic.TcCoe Idealize.SL.Sem

/-- The two results are one array of the same arguments. -/
theorem result_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v45 (F := Ideal) (H m c) (Gn m c) (Wg m c) (Wu m c) (Wd m c) (Gf m c) = Value.G6 m c := by
  funext i
  obtain ⟨b, t, d, rfl⟩ : ∃ (b : Fin 2) (t : Fin 16384) (d : Fin 2048), i = ix3 b t d :=
    ⟨i 0, i 1, i 2, by funext a; fin_cases a <;> rfl⟩
  exact (Cert.Reference2Ideal.Read.result_apply _ _ _ _ _ _ b t d).trans (result_apply m c b t d).symm

end Cert.Kernel2Ideal.Ffn

namespace Cert

open Idealize.ShloMosaic Idealize.ShloMosaic.TcCoe Idealize.SL.Sem

/-- The feed-forward kernel and the reference leave the same array. -/
theorem ffn_algebraic : algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Value.G6 m c, Cert.Kernel2Ideal.Value.run m g, ?_⟩
  refine (θ_run _ _ _).mono (fun r h c => ⟨?_, (h c).2⟩) (Cert.Reference2Ideal.Value.run m' g')
  obtain ⟨e0, e1, e2, e3, e4, e5⟩ := hagree c
  rw [(h c).1, Cert.Reference2Ideal.Read.val_main_v45_eq, e0, e1, e2, e3, e4, e5]
  exact Cert.Kernel2Ideal.Ffn.result_eq m c

end Cert

end
-- ==== Proof.AttnFrameIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

/-- The resources the body runs on. -/
abbrev Res (F : FTy → Type) := MT nD τ sig Unit (Elt F) ℕ (UR sig nD τ) ℕ

set_option maxHeartbeats 16000000 in
/-- One run of the attention body, from its staged inputs at named contents and its output block and four scratch
    buffers at any: it ends with the inputs as they were and the others at some contents. -/
theorem body_run (c : Dev nD) (i : grid0.Coords) (arg3 : Memref sig .tc .smem S16 .f32) (harg3 : arg3.IsWhole) (arg4 : Memref sig .tc .vmem S1x4096x512 .bf16) (harg4 : arg4.IsWhole) (arg5 : Memref sig .tc .vmem S1x128x128 .bf16) (harg5 : arg5.IsWhole) (arg6 : Memref sig .tc .vmem S1x4096x128 .bf16) (harg6 : arg6.IsWhole) (arg7 : Memref sig .tc .vmem S1x128x128 .bf16) (harg7 : arg7.IsWhole) (arg8 : Memref sig .tc .vmem S1x16x128 .bf16) (harg8 : arg8.IsWhole) (arg9 : Memref sig .tc .vmem S1x128x128 .bf16) (harg9 : arg9.IsWhole) (arg10 : Memref sig .tc .vmem S1x4096x128 .bf16) (harg10 : arg10.IsWhole) (arg11 : Memref sig .tc .vmem S1x128x128 .bf16) (harg11 : arg11.IsWhole) (arg12 : Memref sig .tc .vmem S1x16x128 .bf16) (harg12 : arg12.IsWhole) (arg13 : Memref sig .tc .vmem S1x4096x512 .bf16) (harg13 : arg13.IsWhole) (arg14 : Memref sig .tc .vmem S4480x128 .bf16) (harg14 : arg14.IsWhole) (arg15 : Memref sig .tc .vmem S4480x256 .bf16) (harg15 : arg15.IsWhole) (arg16 : Memref sig .tc .vmem S2x512x512 .f32) (harg16 : arg16.IsWhole) (arg17 : Memref sig .tc .vmem S2x512x512 .bf16) (harg17 : arg17.IsWhole)
    (X0 : BufTy.Contents (Elt F) arg3.view.ty) (X1 : BufTy.Contents (Elt F) arg4.view.ty) (X2 : BufTy.Contents (Elt F) arg5.view.ty) (X3 : BufTy.Contents (Elt F) arg6.view.ty) (X4 : BufTy.Contents (Elt F) arg7.view.ty) (X5 : BufTy.Contents (Elt F) arg8.view.ty) (X6 : BufTy.Contents (Elt F) arg9.view.ty) (X7 : BufTy.Contents (Elt F) arg10.view.ty) (X8 : BufTy.Contents (Elt F) arg11.view.ty) (X9 : BufTy.Contents (Elt F) arg12.view.ty) (E : Set ℕ) (K : PUnit → sProp (Res F)) :
    iprop((arg3.view.loc (c : Thread nD τ) ↦[arg3.view.set]{fullShare} X0) ∗ (arg4.view.loc (c : Thread nD τ) ↦[arg4.view.set]{fullShare} X1) ∗ (arg5.view.loc (c : Thread nD τ) ↦[arg5.view.set]{fullShare} X2) ∗ (arg6.view.loc (c : Thread nD τ) ↦[arg6.view.set]{fullShare} X3) ∗ (arg7.view.loc (c : Thread nD τ) ↦[arg7.view.set]{fullShare} X4) ∗ (arg8.view.loc (c : Thread nD τ) ↦[arg8.view.set]{fullShare} X5) ∗ (arg9.view.loc (c : Thread nD τ) ↦[arg9.view.set]{fullShare} X6) ∗ (arg10.view.loc (c : Thread nD τ) ↦[arg10.view.set]{fullShare} X7) ∗ (arg11.view.loc (c : Thread nD τ) ↦[arg11.view.set]{fullShare} X8) ∗ (arg12.view.loc (c : Thread nD τ) ↦[arg12.view.set]{fullShare} X9) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))
        ∗ (iprop((arg3.view.loc (c : Thread nD τ) ↦[arg3.view.set]{fullShare} X0) ∗ (arg4.view.loc (c : Thread nD τ) ↦[arg4.view.set]{fullShare} X1) ∗ (arg5.view.loc (c : Thread nD τ) ↦[arg5.view.set]{fullShare} X2) ∗ (arg6.view.loc (c : Thread nD τ) ↦[arg6.view.set]{fullShare} X3) ∗ (arg7.view.loc (c : Thread nD τ) ↦[arg7.view.set]{fullShare} X4) ∗ (arg8.view.loc (c : Thread nD τ) ↦[arg8.view.set]{fullShare} X5) ∗ (arg9.view.loc (c : Thread nD τ) ↦[arg9.view.set]{fullShare} X6) ∗ (arg10.view.loc (c : Thread nD τ) ↦[arg10.view.set]{fullShare} X7) ∗ (arg11.view.loc (c : Thread nD τ) ↦[arg11.view.set]{fullShare} X8) ∗ (arg12.view.loc (c : Thread nD τ) ↦[arg12.view.set]{fullShare} X9) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) Variants.none c none) E (cc0_windowed_gqa i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_windowed_gqa_eq_skeleton]; unfold cc0_windowed_gqa_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  iintro ⟨H0, H1, H2, H3, H4, H5, H6, H7, H8, H9, ⟨%f13, HO⟩, ⟨%f14, HS0⟩, ⟨%f15, HS1⟩, ⟨%f16, HS2⟩, ⟨%f17, HS3⟩, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HO]; · iexists _; iexact HO
  isplitl [HS0]; · iexists _; iexact HS0
  isplitl [HS1]; · iexists _; iexact HS1
  isplitl [HS2]; · iexists _; iexact HS2
  iexists _; iexact HS3

variable (m : (ℓ : Loc nD τ sig) → Buf (Elt F) ℓ) (ρ : Dev nD → PrngReg)

/-- The proof data of the attention's pipeline: the arrays as the region finds them; after the body each input's buffer
    holds its block, and of the output's buffer nothing is named; nothing owed; each array's share split among the
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => X0_6 m c t
    | ⟨7, _⟩ => X0_7 m c t
    | ⟨8, _⟩ => X0_8 m c t
    | ⟨9, _⟩ => iblk m c 9 t
    | ⟨10, _⟩ => Pipeline.Dat.unnamed 10 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = X0_6 m c t := by dsimp only [dats]
theorem after_7 (c : Dev nD) (t : Fin cfg0.N) : (dats m 0 c).after 7 t = X0_7 m c t := by dsimp only [dats]
theorem after_8 (c : Dev nD) (t : Fin cfg0.N) : (dats m 0 c).after 8 t = X0_8 m c t := by dsimp only [dats]
theorem after_9 (c : Dev nD) (t : Fin cfg0.N) : (dats m 0 c).after 9 t = iblk m c 9 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = X0_6 m c t :=
  before0_6_of m (dats m 0 c) (A_eq m c 6) (after_6 m c) t d
theorem before_7 (c : Dev nD) (t : Fin cfg0.N) (d) : (dats m 0 c).before 7 t d = X0_7 m c t :=
  before0_7_of m (dats m 0 c) (A_eq m c 7) (after_7 m c) t d
theorem before_8 (c : Dev nD) (t : Fin cfg0.N) (d) : (dats m 0 c).before 8 t d = X0_8 m c t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The class invariant opened: the four scratch buffers at some contents, and the generator's register at some state. -/
theorem PhiA_eq (c : Dev nD) :
    (Pipeline.ΦA spec0 c : sProp (Res F))
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d))
        ∗ (∃ r, prngReg c r)) := by
  unfold Pipeline.ΦA; rw [scopedRest0_eq]; simp only [owns_whole]; try rfl

/-- What the body is called with at point `t`, the windows one by one. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))

/-- What it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

set_option maxHeartbeats 4000000 in
/-- The body at any point meets its obligation: its inputs' buffers are at their blocks and stay so. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9]
  rw [show (dats m 0 c).Φ t.succ = Pipeline.ΦA spec0 c from rfl, show (dats m 0 c).Φ t.castSucc = Pipeline.ΦA spec0 c from rfl, PhiA_eq]
  unfold owns
  iintro ⟨⟨⟨⟨%e0, %s0, %hs0, HS0⟩, ⟨%e1, %s1, %hs1, HS1⟩, ⟨%e2, %s2, %hs2, HS2⟩, ⟨%e3, %s3, %hs3, HS3⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%X, %fo, %ho, HO⟩⟩
  iapply (body_run c (grid0.coords t) _ _ _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 f9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HO]; · iexists _; iexact HO
  isplitl [HS0]; · iexists s0; iexact HS0
  isplitl [HS1]; · iexists s1; iexact HS1
  isplitl [HS2]; · iexists s2; iexact HS2
  isplitl [HS3]; · iexists s3; iexact HS3
  iintro ⟨H0, H1, H2, H3, H4, H5, H6, H7, H8, H9, ⟨%o', HO⟩, ⟨%s0', HS0⟩, ⟨%s1', HS1⟩, ⟨%s2', HS2⟩, ⟨%s3', HS3⟩⟩
  isplitl [HS0 HS1 HS2 HS3 Hg]
  · isplitl [HS0 HS1 HS2 HS3]
    · isplitl [HS0]
      · iexists _, s0'; isplitr
        · ipureintro; rfl
        iexact HS0
      isplitl [HS1]
      · iexists _, s1'; isplitr
        · ipureintro; rfl
        iexact HS1
      isplitl [HS2]
      · iexists _, s2'; isplitr
        · ipureintro; rfl
        iexact HS2
      iexists _, s3'; isplitr
      · ipureintro; rfl
      iexact HS3
    iexact Hg
  isplitl [Ho]; · iexact Ho
  isplitl [H0]
  · iexists f0; isplitr
    · ipureintro; exact h0
    iexact H0
  isplitl [H1]
  · iexists f1; isplitr
    · ipureintro; exact h1
    iexact H1
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists f5; isplitr
    · ipureintro; exact h5
    iexact H5
  isplitl [H6]
  · iexists f6; isplitr
    · ipureintro; exact h6
    iexact H6
  isplitl [H7]
  · iexists f7; isplitr
    · ipureintro; exact h7
    iexact H7
  isplitl [H8]
  · iexists f8; isplitr
    · ipureintro; exact h8
    iexact H8
  isplitl [H9]
  · iexists f9; isplitr
    · ipureintro; exact h9
    iexact H9
  iexists _, o'; isplitr
  · ipureintro; rfl
  iexact HO

/-- The kernel's row of the definitions is the body at the point. -/
theorem defs₀_row (t : Fin cfg0.N) :
    defs₀ (F := F) .tc cfg0.body (cfg0.bodyArgs t (cfg0.slots t)) = bodyAt0 t := by
  unfold defs₀; rw [Defs.onTc_tc]

/-- The output window is the one of which nothing is named. -/
def fgt : Fin cfg0.W → Bool := fun w => decide (w = 10)

theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every execution from zero counters ends with every input array as it was and every counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The attention ends without fault, its two arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 9 rfl).trans (A_eq m c 9), (h.1.arr_in c 0 rfl).trans (A_eq m c 0)⟩, h.2⟩)
    (run_main_quiescent m ρ)

end Cert.KernelIdeal.Attn

end
-- ==== Proof.FfnMainRun.lean ====
/-
  A feed-forward part without the final norm, its run: each grid point adds its chunk of the hidden axis to the output block, which
  the first point of a row block starts from the rows themselves; the scaled rows stay in the scratch between points.
-/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Pipeline.FrameBody
public import Idealize.ShloMosaic.Lib.Ring
public import Idealize.ShloMosaic.Lib.Tactic
public import Idealize.ShloMosaic.Lib.Pipeline.Value
public import Idealize.ShloMosaic.Lib.Claim

@[expose] public section

set_option maxRecDepth 16384

noncomputable section

namespace Cert.Kernel3Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3Ideal.Gen

variable {F : FTy → Type} [FloatOps F]

/-- The resources the body runs on. -/
abbrev Res (F : FTy → Type) := MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- The first 256 columns of a weight block. -/
def lo (w : Vec F S1x2048x512 .bf16) : Vec F S1x2048x256 .bf16 :=
  View.ld w (Rect.unit (s := S1x2048x512) ![0, 0, 0] S1x2048x256.size inb_S1x2048x512_S1x2048x256_0_0_0)
/-- The last 256 columns of a weight block. -/
def hi (w : Vec F S1x2048x512 .bf16) : Vec F S1x2048x256 .bf16 :=
  View.ld w (Rect.unit (s := S1x2048x512) ![0, 0, 256] S1x2048x256.size inb_S1x2048x512_S1x2048x256_0_0_256)

/-- One accumulation: the output block `o` plus the activations of `xn` through `wg`, `wu`, times `wd`. -/
def accum (xn : Vec F S1024x2048 .bf16) (wg wu : Vec F S1x2048x512 .bf16) (wd : Vec F S1x512x2048 .bf16)
    (o : Vec F S1x1024x2048 .f32) : Vec F S1x1024x2048 .f32 :=
  k0_pay1 (k0_pay5 xn (lo wg) xn (lo wu)) (k0_pay6 xn (hi wg) xn (hi wu)) (Scalar.ofBits .f32 0x3F000000#32) o wd

/-- The body's one branch is taken: the point is the first of a row block. -/
abbrev first (i : grid0.Coords) : Prop := (Scalar.cmpi .ne (Scalar.extui (Scalar.cmpi .eq (BitVec.ofNat 32 (i 2).val) 0#32)) 0#32) = 1#1

theorem first_iff (t : Fin cfg0.N) : first (grid0.coords t) ↔ t.val % 11 = 0 := by
  have ht : t.val < 352 := Nat.lt_of_lt_of_eq t.isLt N_0
  have e2 : (grid0.coords t 2).val = t.val / 1 % 11 := Pipeline.Grid.coords_val t 2 (by decide) rfl
  simp only [first, e2]
  word_cmp

set_option maxHeartbeats 4000000 in
/-- A later point of a row block adds its chunk to the output block and keeps the scratch. -/
theorem run_next (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x1024x2048 .f32) (harg8 : arg8.IsWhole) (arg9 : Memref sig .tc .vmem S1024x2048 .bf16) (harg9 : arg9.IsWhole) (hc : ¬first i)
    (x0 : Vec F S1x1024x2048 .f32) (x1 : Vec F S1x2048 .f32) (x2 : Vec F S1x2048x512 .bf16) (x3 : Vec F S1x2048x512 .bf16) (x4 : Vec F S1x512x2048 .bf16) (xo : Vec F S1x1024x2048 .f32) (xs : Vec F S1024x2048 .bf16) (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (accum xs x2 x3 x4 xo) ∗ owns (c : Thread nD τ) arg9 fullShare (xs)) -∗ K ⟨⟩))
      ⊢ wp frame (wpE (defs₀ (F := F)) Variants.none c none) E (cc0_ffn i arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [View.read_writes_eq_canon _ _ _ (View.cover_of_tiledL _ S1x1024x2048.size (by sl_kernel_rfl))]
    sl_unfold_words
    rw [View.canon_unit_zero hz3]
    simp only [View.readAt_eq_ld, harg3.read_unread, harg4.read_unread, harg5.read_unread, harg6.read_unread, harg7.read_unread, harg8.read_unread, harg9.read_unread,
        View.ld_unit_zero (S := S1x1024x2048) hz3, View.ld_unit_zero (S := S1x512x2048) hz3, View.ld_unit_zero (S := S1024x2048) hz2, View.ld_unit_zero (S := S1x2048) hz2]
    rfl
  iexists _; isplitr; · ipureintro; exact harg9.read_unread _
  iexact H6

set_option maxHeartbeats 4000000 in
/-- The first point of a row block starts from the rows themselves, with their scaled form left in the scratch. -/
theorem run_first (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S1x1024x2048 .f32) (harg8 : arg8.IsWhole) (arg9 : Memref sig .tc .vmem S1024x2048 .bf16) (harg9 : arg9.IsWhole) (hc : first i)
    (x0 : Vec F S1x1024x2048 .f32) (x1 : Vec F S1x2048 .f32) (x2 : Vec F S1x2048x512 .bf16) (x3 : Vec F S1x2048x512 .bf16) (x4 : Vec F S1x512x2048 .bf16) (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (accum (k0_pay3 x0 x1) x2 x3 x4 (k0_pay4 x0)) ∗ owns (c : Thread nD τ) arg9 fullShare (k0_pay3 x0 x1)) -∗ K ⟨⟩))
      ⊢ wp frame (wpE (defs₀ (F := F)) Variants.none c none) E (cc0_ffn i arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [View.read_writes_eq_canon _ _ _ (View.cover_of_tiledL _ S1x1024x2048.size (by sl_kernel_rfl))]
    sl_unfold_words
    rw [View.canon_cons_unit_zero (S := S1x1024x2048) hz3]
    simp only [View.readCov_unit_zero (S := S1x1024x2048) _ hz3, View.readCov_unit_zero (S := S1024x2048) _ hz2, View.readAt_eq_ld, harg3.read_unread, harg4.read_unread, harg5.read_unread, harg6.read_unread, harg7.read_unread, harg8.read_unread, harg9.read_unread,
        View.ld_unit_zero (S := S1x1024x2048) hz3, View.ld_unit_zero (S := S1x512x2048) hz3, View.ld_unit_zero (S := S1024x2048) hz2, View.ld_unit_zero (S := S1x2048) hz2]
    rfl
  iexists _; isplitr
  swap; · iexact H6
  ipureintro
  rw [View.read_writes_eq_canon _ _ _ (View.cover_of_tiledL _ S1024x2048.size (by sl_kernel_rfl))]
  sl_unfold_words
  rw [View.canon_unit_zero hz2]
  simp only [View.readAt_eq_ld, harg3.read_unread, harg4.read_unread, harg5.read_unread, harg6.read_unread, harg7.read_unread, harg8.read_unread, harg9.read_unread,
        View.ld_unit_zero (S := S1x1024x2048) hz3, View.ld_unit_zero (S := S1x512x2048) hz3, View.ld_unit_zero (S := S1024x2048) hz2, View.ld_unit_zero (S := S1x2048) hz2]

/-! ## What the output block and the scratch hold after each point -/

variable (m : (ℓ : Loc nD τ sig) → Buf (Elt F) ℓ) (ρ : Dev nD → PrngReg)

/-- The output block and the scratch after point `n`. -/
def outs (c : Dev nD) : (n : ℕ) → n < cfg0.N → Vec F S1x1024x2048 .f32 × Vec F S1024x2048 .bf16
  | 0, h => (accum (k0_pay3 (X0_0 m c ⟨0, h⟩) (iblk m c 1 ⟨0, h⟩)) (iblk m c 2 ⟨0, h⟩) (iblk m c 3 ⟨0, h⟩) (iblk m c 4 ⟨0, h⟩) (k0_pay4 (X0_0 m c ⟨0, h⟩)),
      k0_pay3 (X0_0 m c ⟨0, h⟩) (iblk m c 1 ⟨0, h⟩))
  | n + 1, h =>
    if (n + 1) % 11 = 0 then
      (accum (k0_pay3 (X0_0 m c ⟨n + 1, h⟩) (iblk m c 1 ⟨n + 1, h⟩)) (iblk m c 2 ⟨n + 1, h⟩) (iblk m c 3 ⟨n + 1, h⟩) (iblk m c 4 ⟨n + 1, h⟩) (k0_pay4 (X0_0 m c ⟨n + 1, h⟩)),
        k0_pay3 (X0_0 m c ⟨n + 1, h⟩) (iblk m c 1 ⟨n + 1, h⟩))
    else
      (accum (outs c n (Nat.lt_of_succ_lt h)).2 (iblk m c 2 ⟨n + 1, h⟩) (iblk m c 3 ⟨n + 1, h⟩) (iblk m c 4 ⟨n + 1, h⟩) (outs c n (Nat.lt_of_succ_lt h)).1,
        (outs c n (Nat.lt_of_succ_lt h)).2)

theorem outs_first (c : Dev nD) (t : Fin cfg0.N) (h0 : t.val % 11 = 0) :
    outs m c t.val t.isLt = (accum (k0_pay3 (X0_0 m c t) (iblk m c 1 t)) (iblk m c 2 t) (iblk m c 3 t) (iblk m c 4 t) (k0_pay4 (X0_0 m c t)),
      k0_pay3 (X0_0 m c t) (iblk m c 1 t)) := by
  obtain ⟨n, hn⟩ := t
  cases n with
  | zero => rfl
  | succ n => exact if_pos h0

theorem outs_next (c : Dev nD) (t : Fin cfg0.N) (h0 : ¬t.val % 11 = 0) (h : t.val - 1 < cfg0.N) :
    outs m c t.val t.isLt = (accum (outs m c (t.val - 1) h).2 (iblk m c 2 t) (iblk m c 3 t) (iblk m c 4 t) (outs m c (t.val - 1) h).1,
      (outs m c (t.val - 1) h).2) := by
  obtain ⟨n, hn⟩ := t
  cases n with
  | zero => exact absurd (Nat.zero_mod 11) h0
  | succ n => exact if_neg h0

/-- The class invariant with the scratch owned at some contents. -/
theorem PhiA_eq (c : Dev nD) :
    (Pipeline.ΦA spec0 c : sProp (Res F))
      = iprop((∃ d, owns (c : Thread nD τ) (Memref.whole cc0_scratch0) fullShare d) ∗ (∃ r, prngReg c r)) := by
  unfold Pipeline.ΦA; rw [scopedRest0_eq]; simp only [owns_whole]; try rfl

/-- The invariant before position `n`: the scratch at what the point before left. -/
def Phi (c : Dev nD) : (n : ℕ) → n ≤ cfg0.N → sProp (Res F)
  | 0, _ => Pipeline.ΦA spec0 c
  | n + 1, h => iprop(owns (c : Thread nD τ) (Memref.whole cc0_scratch0) fullShare (outs m c n h).2 ∗ (∃ r, prngReg c r))

theorem Phi_pos (c : Dev nD) (n : ℕ) (h : n ≤ cfg0.N) (hz : n ≠ 0) (h' : n - 1 < cfg0.N) :
    Phi m c n h = iprop(owns (c : Thread nD τ) (Memref.whole cc0_scratch0) fullShare (outs m c (n - 1) h').2 ∗ (∃ r, prngReg c r)) := by
  cases n with
  | zero => exact absurd rfl hz
  | succ n => rfl

/-- Whatever the position, the invariant gives the class's back. -/
theorem Phi_le (c : Dev nD) (n : ℕ) (h : n ≤ cfg0.N) : Phi m c n h ⊢ Pipeline.ΦA spec0 c := by
  cases n with
  | zero => exact Idealize.SL.BI.Entails.refl _
  | succ n =>
    rw [PhiA_eq]
    show iprop(owns (c : Thread nD τ) (Memref.whole cc0_scratch0) fullShare (outs m c n h).2 ∗ (∃ r, prngReg c r)) ⊢ _
    iintro ⟨HS, Hg⟩
    isplitl [HS]
    · iexists _; iexact HS
    iexact Hg

theorem Phi_some (c : Dev nD) (n : ℕ) (h : n ≤ cfg0.N) :
    Phi m c n h ⊢ (iprop((∃ d, owns (c : Thread nD τ) (Memref.whole cc0_scratch0) fullShare d) ∗ (∃ r, prngReg c r)) : sProp (Res F)) :=
  by rw [← PhiA_eq]; exact Phi_le m c n h

/-- The pipeline's proof data: each input's buffer at its block, the output's at the running sum. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outs m c t.val t.isLt).1 := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- No write-back of the output is cut at any point. -/
theorem xsize_5 : ∀ t : Fin cfg0.N, ∀ a, (cfg0.win 5).xsize (cfg0.grid.coords t) a = (cfg0.win 5).size a := by decide +kernel

theorem moved_5 (t : Fin cfg0.N) (j : (cfg0.win 5).block.Idx) : (cfg0.win 5).moved (cfg0.grid.coords t) j = true :=
  ((cfg0.win 5).moved_iff _ j).mpr fun a => by rw [xsize_5 t a]; exact (j a).isLt

/-- So what a point leaves in the output's buffer the next one of its row block finds there, the whole of it. -/
theorem before_5 (c : Dev nD) (t : Fin cfg0.N) (h0 : ¬t.val % 11 = 0) (h : t.val - 1 < cfg0.N) (d) :
    (dats m 0 c).before 5 t d = (outs m c (t.val - 1) h).1 := by
  have hN : t.val < 352 := lt_of_lt_of_eq t.isLt N_0
  rw [(dats m 0 c).before_of_pos 5 t (by omega) rfl d,
    if_neg (fun hh => by have := (flush0_5 _).mp hh; dsimp only at this; omega)]
  show (dats m 0 c).kept 5 ⟨t.val - 1, h⟩ d = _
  unfold Dat.kept
  refine Eq.trans ?_ (((cfg0.win 5).fill_cut (cfg0.grid.coords ⟨t.val - 1, h⟩) _).trans (after_5 m c ⟨t.val - 1, h⟩))
  funext j; unfold Pipeline.Window.fill; rw [dif_pos (moved_5 _ j), dif_pos (moved_5 _ j)]

/-- What the body is called with at point `t`, the windows one by one. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  have hp : t.val - 1 < cfg0.N := Nat.lt_of_le_of_lt (Nat.sub_le _ _) t.isLt
  unfold bodyPre bodyPost bodyAt0
  simp only [before_0, before_1, before_2, before_3, before_4]
  rw [show (dats m 0 c).owesAt () t.succ = (dats m 0 c).owesAt () t.castSucc from rfl,
    show (dats m 0 c).Φ t.succ = iprop(owns (c : Thread nD τ) (Memref.whole cc0_scratch0) fullShare (outs m c t.val t.isLt).2 ∗ (∃ r, prngReg c r)) from rfl,
    after_0, after_1, after_2, after_3, after_4, after_5, Phi_castSucc]
  by_cases h0 : t.val % 11 = 0
  · rw [outs_first m c t h0]
    iintro ⟨HP, Ho, ⟨%d0, H0⟩, ⟨%d1, H1⟩, ⟨%d2, H2⟩, ⟨%d3, H3⟩, ⟨%d4, H4⟩, ⟨%d5, H5⟩⟩
    ihave HA := (Phi_some m c t.val _) $$ HP
    icases HA with ⟨HS, Hg⟩
    iapply (run_first c (grid0.coords t) _ _ _ _ _ _ _ _ _ _ _ _ (Memref.whole cc0_scratch0) (Memref.isWhole_whole _) ((first_iff t).mpr h0) (X0_0 m c t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi_pos m c t.val _ (by omega) hp, outs_next m c t h0 hp]
    simp only [before_5 m c t h0 hp]
    iintro ⟨⟨HS, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ (Memref.whole cc0_scratch0) (Memref.isWhole_whole _) (fun h => h0 ((first_iff t).mp h)) (X0_0 m c t) (iblk m c 1 t) (iblk m c 2 t) (iblk m c 3 t) (iblk m c 4 t) (outs m c (t.val - 1) hp).1 (outs m c (t.val - 1) hp).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The kernel's row of the definitions is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hout (c : Dev nD) : (dats m 0 c).Φ (Fin.last cfg0.N) ⊢ Pipeline.ΦA spec0 c :=
  Phi_le m c cfg0.N (Nat.le_refl _)

set_option backward.isDefEq.respectTransparency.types false in
/-- Every execution from zero counters ends with the arrays at what the proof data say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun c => hout m c)

/-- The call ends without fault, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel3Ideal.Ffn

end
-- ==== Proof.FfnMainClaim.lean ====
/-
  The feed-forward part without the final norm, its value: on the rows the kernel writes, the row plus half the gated product, summed
  over the whole hidden axis, which is the reference's.
-/
module

public import proofs.«01_k».proof.Proof.FfnMainRun
public import proofs.«01_k».proof.Proof.FfnClaim
public import proofs.«01_k».proof.Proof.Gen.Reference3Ideal.Read
public import proofs.«01_k».proof.Proof.Gen.On_written_rows
public import Idealize.ShloMosaic.Lib.WordCmp

@[expose] public section

noncomputable section

namespace Cert.Kernel3Ideal.Ffn

open Cert.Kernel3Ideal Cert.Kernel3Ideal.Gen Idealize.ShloMosaic Idealize.ShloMosaic.TcCoe Idealize.SL.Sem
open Cert.Kernel2Ideal.Ffn (norm act half term chunkTerm)

/-! ## The payloads are those of the call with the final norm -/

theorem accum_eq (xn : Vec Ideal S1024x2048 .bf16) (wg wu : Vec Ideal S1x2048x512 .bf16) (wd : Vec Ideal S1x512x2048 .bf16)
    (o : Vec Ideal S1x1024x2048 .f32) : accum xn wg wu wd o = Cert.Kernel2Ideal.Ffn.accum xn wg wu wd o := rfl

theorem pay3_eq (x0 : Vec Ideal S1x1024x2048 .f32) (x1 : Vec Ideal S1x2048 .f32) : k0_pay3 x0 x1 = Cert.Kernel2Ideal.Gen.k0_pay4 x0 x1 := rfl

theorem pay4_eq (x0 : Vec Ideal S1x1024x2048 .f32) : k0_pay4 x0 = x0 :=
  (show k0_pay4 x0 = Cert.Kernel2Ideal.Gen.k0_pay5 x0 from rfl).trans (Cert.Kernel2Ideal.Ffn.pay5_eq x0)

/-! ## The blocks a point reads -/

variable (m : (ℓ : Loc nD τ sig) → Buf (Elt Ideal) ℓ) (c : Dev nD)

abbrev H : Vec Ideal S2x16400x2048 .f32 := m ((c : Thread nD τ).loc main_arg0)
abbrev Gn : Vec Ideal S1x2048 .f32 := m ((c : Thread nD τ).loc main_arg1)
abbrev Wg : Vec Ideal S2x2048x5632 .bf16 := m ((c : Thread nD τ).loc main_arg2)
abbrev Wu : Vec Ideal S2x2048x5632 .bf16 := m ((c : Thread nD τ).loc main_arg3)
abbrev Wd : Vec Ideal S2x5632x2048 .bf16 := m ((c : Thread nD τ).loc main_arg4)

theorem idx_facts : ∀ t : Fin cfg0.N,
    (win0_0.index t (0 : Fin 3) = t.val / 11 / 16 ∧ win0_0.index t (1 : Fin 3) = t.val / 11 % 16 ∧ win0_0.index t (2 : Fin 3) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = t.val % 11)
    ∧ (win0_3.index t (0 : Fin 3) = 1 ∧ win0_3.index t (1 : Fin 3) = 0 ∧ win0_3.index t (2 : Fin 3) = t.val % 11)
    ∧ (win0_4.index t (0 : Fin 3) = 1 ∧ win0_4.index t (1 : Fin 3) = t.val % 11 ∧ win0_4.index t (2 : Fin 3) = 0)
    ∧ (win0_5.index t (0 : Fin 3) = t.val / 11 / 16 ∧ win0_5.index t (1 : Fin 3) = t.val / 11 % 16 ∧ win0_5.index t (2 : Fin 3) = 0) :=
  (by decide +kernel : ∀ t : Fin grid0.N, _)

theorem X0_apply (t : Fin cfg0.N) (r : Fin 1024) (d : Fin 2048) (hb : t.val / 11 / 16 < 2) (hr : 1024 * (t.val / 11 % 16) + r.val < 16400) :
    (X0_0 m c t : Vec Ideal S1x1024x2048 .f32) (ix3 0 r d) = H m c (ix3 ⟨t.val / 11 / 16, hb⟩ ⟨1024 * (t.val / 11 % 16) + r.val, hr⟩ d) := by
  obtain ⟨⟨e0, e1, e2⟩, -⟩ := idx_facts t
  show (cfg0.win 0).fill (cfg0.grid.coords t) dflt0_0 (iblk m c 0 t) (ix3 0 r d) = _
  unfold Pipeline.Window.fill
  rw [dif_pos (moved0_0 t _)]
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * 0 = t.val / 11 / 16; omega
  | ⟨1, _⟩ => show win0_0.index t (1 : Fin 3) * 1024 + 1 * r.val = 1024 * (t.val / 11 % 16) + r.val; omega
  | ⟨2, _⟩ => show win0_0.index t (2 : Fin 3) * 2048 + 1 * d.val = d.val; omega

theorem blk1_apply (t : Fin cfg0.N) (d : Fin 2048) : (iblk m c 1 t : Vec Ideal S1x2048 .f32) (ix2 0 d) = Gn m c (ix2 0 d) := by
  obtain ⟨-, ⟨e0, e1⟩, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 1 + 1 * 0 = 0; omega
  | ⟨1, _⟩ => show win0_1.index t (1 : Fin 2) * 2048 + 1 * d.val = d.val; omega

theorem blk2_apply (t : Fin cfg0.N) (x : Fin 2048) (f : Fin 512) (h : 512 * (t.val % 11) + f.val < 5632) :
    (iblk m c 2 t : Vec Ideal S1x2048x512 .bf16) (ix3 0 x f) = Wg m c (ix3 1 x ⟨512 * (t.val % 11) + f.val, h⟩) := by
  obtain ⟨-, -, ⟨e0, e1, e2⟩, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 3) * 1 + 1 * 0 = 1; omega
  | ⟨1, _⟩ => show win0_2.index t (1 : Fin 3) * 2048 + 1 * x.val = x.val; omega
  | ⟨2, _⟩ => show win0_2.index t (2 : Fin 3) * 512 + 1 * f.val = 512 * (t.val % 11) + f.val; omega

theorem blk3_apply (t : Fin cfg0.N) (x : Fin 2048) (f : Fin 512) (h : 512 * (t.val % 11) + f.val < 5632) :
    (iblk m c 3 t : Vec Ideal S1x2048x512 .bf16) (ix3 0 x f) = Wu m c (ix3 1 x ⟨512 * (t.val % 11) + f.val, h⟩) := by
  obtain ⟨-, -, -, ⟨e0, e1, e2⟩, -⟩ := idx_facts t
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 3) * 1 + 1 * 0 = 1; omega
  | ⟨1, _⟩ => show win0_3.index t (1 : Fin 3) * 2048 + 1 * x.val = x.val; omega
  | ⟨2, _⟩ => show win0_3.index t (2 : Fin 3) * 512 + 1 * f.val = 512 * (t.val % 11) + f.val; omega

theorem blk4_apply (t : Fin cfg0.N) (f : Fin 512) (d : Fin 2048) (h : 512 * (t.val % 11) + f.val < 5632) :
    (iblk m c 4 t : Vec Ideal S1x512x2048 .bf16) (ix3 0 f d) = Wd m c (ix3 1 ⟨512 * (t.val % 11) + f.val, h⟩ d) := by
  obtain ⟨-, -, -, -, ⟨e0, e1, e2⟩, -⟩ := idx_facts t
  unfold iblk
  rw [View.read_apply]
  show m ((c : Thread nD τ).loc main_arg4) _ = m ((c : Thread nD τ).loc main_arg4) _
  congr 1
  funext a
  apply Fin.ext
  match a with
  | ⟨0, _⟩ => show win0_4.index t (0 : Fin 3) * 1 + 1 * 0 = 1; omega
  | ⟨1, _⟩ => show win0_4.index t (1 : Fin 3) * 512 + 1 * f.val = 512 * (t.val % 11) + f.val; omega
  | ⟨2, _⟩ => show win0_4.index t (2 : Fin 3) * 2048 + 1 * d.val = d.val; omega

/-- A point's chunk is 512 consecutive hidden units. -/
theorem chunkTerm_eq (t : Fin cfg0.N) (xn : Fin 2048 → EReal) (d : Fin 2048) (k : ℕ) (hk : k < 512) :
    chunkTerm (iblk m c 2 t) (iblk m c 3 t) (iblk m c 4 t) xn d k = term (Wg m c) (Wu m c) (Wd m c) xn d (512 * (t.val % 11) + k) := by
  have h : 512 * (t.val % 11) + k < 5632 := by omega
  unfold chunkTerm term
  rw [dif_pos hk, dif_pos h, blk4_apply m c t ⟨k, hk⟩ d h]
  simp only [blk2_apply m c t _ ⟨k, hk⟩ h, blk3_apply m c t _ ⟨k, hk⟩ h]

/-! ## A row block's points, folded -/

/-- The row of the residual stream that a row block's row `r` is (zero outside the array). -/
def row (q : ℕ) (r : Fin 1024) (d : Fin 2048) : EReal :=
  if h : q / 16 < 2 ∧ 1024 * (q % 16) + r.val < 16400 then H m c (ix3 ⟨q / 16, h.1⟩ ⟨1024 * (q % 16) + r.val, h.2⟩ d) else 0

/-- That row normed. -/
def nrow (q : ℕ) (r : Fin 1024) : Fin 2048 → EReal := norm (row m c q r) (fun k => Gn m c (ix2 0 k))

/-- The row plus the shares of the first `n` hidden units. -/
def running (q : ℕ) (r : Fin 1024) (n : ℕ) (d : Fin 2048) : EReal :=
  row m c q r d + ∑ k ∈ Finset.range n, term (Wg m c) (Wu m c) (Wd m c) (nrow m c q r) d k

theorem X0_row (t : Fin cfg0.N) (r : Fin 1024) (d : Fin 2048) :
    (X0_0 m c t : Vec Ideal S1x1024x2048 .f32) (ix3 0 r d) = row m c (t.val / 11) r d := by
  have hN : t.val < 352 := lt_of_lt_of_eq t.isLt N_0
  have h : t.val / 11 / 16 < 2 ∧ 1024 * (t.val / 11 % 16) + r.val < 16400 := ⟨by omega, by omega⟩
  unfold row
  rw [dif_pos h, X0_apply m c t r d h.1 h.2]

theorem accum_step (t : Fin cfg0.N) (xn : Vec Ideal S1024x2048 .bf16) (o : Vec Ideal S1x1024x2048 .f32)
    (hxn : ∀ r d, xn (ix2 r d) = nrow m c (t.val / 11) r d)
    (ho : ∀ r d, o (ix3 0 r d) = running m c (t.val / 11) r (512 * (t.val % 11)) d) (r : Fin 1024) (d : Fin 2048) :
    accum xn (iblk m c 2 t) (iblk m c 3 t) (iblk m c 4 t) o (ix3 0 r d) = running m c (t.val / 11) r (512 * (t.val % 11 + 1)) d := by
  rw [accum_eq, Cert.Kernel2Ideal.Ffn.accum_apply, ho]
  unfold running
  rw [add_assoc, Nat.mul_add, Nat.mul_one, Finset.sum_range_add]
  congr 2
  refine Finset.sum_congr rfl fun k hk => ?_
  rw [show (fun k => xn (ix2 r k)) = nrow m c (t.val / 11) r from funext fun k => hxn r k]
  exact chunkTerm_eq m c t _ d k (Finset.mem_range.mp hk)

/-- What the points of a row block leave: the normed rows in the scratch and the running sum in the output block. -/
theorem fold (n : ℕ) : ∀ hn : n < cfg0.N,
    (∀ r d, (outs m c n hn).2 (ix2 r d) = nrow m c (n / 11) r d)
    ∧ ∀ r d, (outs m c n hn).1 (ix3 0 r d) = running m c (n / 11) r (512 * (n % 11 + 1)) d := by
  induction n using Nat.strong_induction_on with
  | _ n ih =>
    intro hn
    by_cases h0 : n % 11 = 0
    · have hA : ∀ r d, (k0_pay3 (X0_0 m c ⟨n, hn⟩) (iblk m c 1 ⟨n, hn⟩) : Vec Ideal S1024x2048 .bf16) (ix2 r d) = nrow m c (n / 11) r d := by
        intro r d
        rw [pay3_eq, Cert.Kernel2Ideal.Ffn.pay4_apply]
        unfold nrow
        congr 1
        · exact funext fun k => X0_row m c ⟨n, hn⟩ r k
        · exact funext fun k => blk1_apply m c ⟨n, hn⟩ k
      rw [outs_first m c ⟨n, hn⟩ h0]
      refine ⟨hA, fun r d => ?_⟩
      dsimp only
      rw [pay4_eq]
      refine accum_step m c ⟨n, hn⟩ _ _ hA (fun r d => ?_) r d
      show _ = running m c (n / 11) r (512 * (n % 11)) d
      rw [h0]
      unfold running
      rw [Nat.mul_zero, Finset.range_zero, Finset.sum_empty, add_zero]
      exact X0_row m c ⟨n, hn⟩ r d
    · have hn' : n - 1 < cfg0.N := Nat.lt_of_le_of_lt (Nat.sub_le _ _) hn
      obtain ⟨i2, i1⟩ := ih (n - 1) (by omega) hn'
      have ed : (n - 1) / 11 = n / 11 := by omega
      have em : (n - 1) % 11 + 1 = n % 11 := by omega
      rw [ed] at i2 i1
      rw [em] at i1
      rw [outs_next m c ⟨n, hn⟩ h0 hn']
      exact ⟨i2, accum_step m c ⟨n, hn⟩ _ _ i2 i1⟩

/-! ## The array the call leaves -/

/-- The result at every row of the residual stream. -/
def G : Vec Ideal S2x16400x2048 .f32 := fun i =>
  H m c i + ∑ k ∈ Finset.range 5632, term (Wg m c) (Wu m c) (Wd m c)
    (norm (fun x => H m c (ix3 (i 0) (i 1) x)) (fun x => Gn m c (ix2 0 x))) (i 2) k

/-- A point that writes back writes its block of the result. -/
theorem flushed_eq (t : Fin cfg0.N) (hf : (cfg0.win 5).flush t = true) (y : ((cfg0.win 5).xblock (cfg0.grid.coords t)).Idx) :
    (dats m 0 c).after 5 t ((cfg0.win 5).xinj (cfg0.grid.coords t) y) = G m c (((cfg0.win 5).blk t).view.emb y) := by
  have hN : t.val < 352 := lt_of_lt_of_eq t.isLt N_0
  have hm : t.val % 11 = 10 := (flush0_5 t).mp hf
  obtain ⟨-, -, -, -, -, ⟨e0, e1, e2⟩⟩ := idx_facts t
  have hx := xsize_5 t
  have hy0 : (y 0).val < 1 := lt_of_lt_of_eq (y 0).isLt (hx 0)
  have hy1 : (y 1).val < 1024 := lt_of_lt_of_eq (y 1).isLt (hx 1)
  have hy2 : (y 2).val < 2048 := lt_of_lt_of_eq (y 2).isLt (hx 2)
  obtain ⟨n0, hn0⟩ : ∃ n, n = (y 0).val := ⟨_, rfl⟩
  obtain ⟨n1, hn1⟩ : ∃ n, n = (y 1).val := ⟨_, rfl⟩
  obtain ⟨n2, hn2⟩ : ∃ n, n = (y 2).val := ⟨_, rfl⟩
  rw [← hn0] at hy0
  rw [← hn1] at hy1
  rw [← hn2] at hy2
  have hi : (((cfg0.win 5).blk t).view.emb y : S2x16400x2048.Idx)
      = ix3 ⟨t.val / 11 / 16, by omega⟩ ⟨1024 * (t.val / 11 % 16) + n1, by omega⟩ ⟨n2, hy2⟩ := by
    funext a; apply Fin.ext
    match a with
    | ⟨0, _⟩ => show win0_5.index t (0 : Fin 3) * 1 + 1 * (y 0).val = t.val / 11 / 16; rw [← hn0]; omega
    | ⟨1, _⟩ => show win0_5.index t (1 : Fin 3) * 1024 + 1 * (y 1).val = 1024 * (t.val / 11 % 16) + n1; rw [← hn1]; omega
    | ⟨2, _⟩ => show win0_5.index t (2 : Fin 3) * 2048 + 1 * (y 2).val = n2; rw [← hn2]; omega
  have hj : ((cfg0.win 5).xinj (cfg0.grid.coords t) y : S1x1024x2048.Idx) = ix3 0 ⟨n1, hy1⟩ ⟨n2, hy2⟩ := by
    funext a; apply Fin.ext
    match a with
    | ⟨0, _⟩ => show (y 0).val = 0; rw [← hn0]; omega
    | ⟨1, _⟩ => exact hn1.symm
    | ⟨2, _⟩ => exact hn2.symm
  rw [after_5]
  refine (congrArg (outs m c t.val t.isLt).1 hj).trans (Eq.trans ?_ (congrArg (G m c) hi).symm)
  rw [(fold m c t.val t.isLt).2, hm]
  have hrow : row m c (t.val / 11) ⟨n1, hy1⟩
      = fun e => H m c (ix3 ⟨t.val / 11 / 16, by omega⟩ ⟨1024 * (t.val / 11 % 16) + n1, by omega⟩ e) := by
    funext e
    unfold row
    exact dif_pos ⟨by omega, by show 1024 * (t.val / 11 % 16) + n1 < 16400; omega⟩
  unfold running nrow G
  rw [hrow, show 512 * (10 + 1) = 5632 from rfl]
  rfl

theorem mem_blk (t : Fin cfg0.N) (i : S2x16400x2048.Idx) :
    i ∈ ((cfg0.win 5).blk t).view.set ↔ ∀ a : Fin 3, win0_5.index t a * S1x1024x2048.size a ≤ (i a).val
      ∧ (i a).val < win0_5.index t a * S1x1024x2048.size a + (win0_5.xsize (grid0.coords t) a) := by
  show i ∈ ((View.whole main_v0).slice (win0_5.rect t)).set ↔ _
  rw [View.set_slice_whole, Rect.mem_set_unit]
  exact Iff.rfl

/-- A row before the appended ones is in a block that is written back. -/
theorem covered (i : S2x16400x2048.Idx) (h : (i 1).val < 16384) :
    ∃ t : Fin cfg0.N, (cfg0.win 5).flush t = true ∧ i ∈ ((cfg0.win 5).blk t).view.set := by
  have h0 : (i 0).val < 2 := (i 0).isLt
  have h2 : (i 2).val < 2048 := (i 2).isLt
  let t : Fin cfg0.N := ⟨11 * (16 * (i 0).val + (i 1).val / 1024) + 10, lt_of_lt_of_eq (by omega) N_0.symm⟩
  have ht : t.val = 11 * (16 * (i 0).val + (i 1).val / 1024) + 10 := rfl
  obtain ⟨-, -, -, -, -, ⟨e0, e1, e2⟩⟩ := idx_facts t
  have x0 : win0_5.xsize (grid0.coords t) (0 : Fin 3) = 1 := xsize_5 t 0
  have x1 : win0_5.xsize (grid0.coords t) (1 : Fin 3) = 1024 := xsize_5 t 1
  have x2 : win0_5.xsize (grid0.coords t) (2 : Fin 3) = 2048 := xsize_5 t 2
  refine ⟨t, (flush0_5 t).mpr (by omega), (mem_blk t i).mpr fun a => ?_⟩
  match a with
  | ⟨0, _⟩ =>
    show win0_5.index t (0 : Fin 3) * 1 ≤ (i 0).val ∧ (i 0).val < win0_5.index t (0 : Fin 3) * 1 + win0_5.xsize (grid0.coords t) (0 : Fin 3)
    omega
  | ⟨1, _⟩ =>
    show win0_5.index t (1 : Fin 3) * 1024 ≤ (i 1).val ∧ (i 1).val < win0_5.index t (1 : Fin 3) * 1024 + win0_5.xsize (grid0.coords t) (1 : Fin 3)
    omega
  | ⟨2, _⟩ =>
    show win0_5.index t (2 : Fin 3) * 2048 ≤ (i 2).val ∧ (i 2).val < win0_5.index t (2 : Fin 3) * 2048 + win0_5.xsize (grid0.coords t) (2 : Fin 3)
    omega

/-- The array at those rows after the run. -/
theorem arr_apply (i : S2x16400x2048.Idx) (h : (i 1).val < 16384) :
    ((dats m 0 c).arrAt 5 cfg0.N : Vec Ideal S2x16400x2048 .f32) i = G m c i := by
  obtain ⟨t, hf, hi⟩ := covered i h
  exact (dats m 0 c).arrAt_forall_of_flushed 5 (fun i v => v = G m c i) (fun t hf y => flushed_eq m c t hf y) cfg0.N t i t.isLt hf hi

end Cert.Kernel3Ideal.Ffn

namespace Cert.Reference3Ideal.Read

open Cert.Reference3Ideal Cert.Reference3Ideal.Gen Idealize.ShloMosaic Idealize.ShloMosaic.TcCoe Idealize.SL.Sem

/-- The reference is the other call's before its final norm. -/
theorem residual_eq (x0 : (⟨S2x16400x2048, .f32⟩ : BufTy).Contents (Elt Ideal)) (x1 : (⟨S1x2048, .f32⟩ : BufTy).Contents (Elt Ideal))
    (x2 x3 : (⟨S2x2048x5632, .bf16⟩ : BufTy).Contents (Elt Ideal)) (x4 : (⟨S2x5632x2048, .bf16⟩ : BufTy).Contents (Elt Ideal)) :
    val_main_v30 (F := Ideal) x0 x1 x2 x3 x4 = Cert.Reference2Ideal.Read.val_main_v30 (F := Ideal) x0 x1 x2 x3 x4 := rfl

end Cert.Reference3Ideal.Read

namespace Cert.Kernel3Ideal.Ffn

open Idealize.ShloMosaic Idealize.ShloMosaic.TcCoe Idealize.SL.Sem

/-- The reference's result of the kernel's arguments. -/
theorem reference_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v30 (F := Ideal) (H m c) (Gn m c) (Wg m c) (Wu m c) (Wd m c) = G m c := by
  rw [Cert.Reference3Ideal.Read.residual_eq]
  funext i
  obtain ⟨b, t, d, rfl⟩ : ∃ (b : Fin 2) (t : Fin 16400) (d : Fin 2048), i = ix3 b t d :=
    ⟨i 0, i 1, i 2, by funext a; fin_cases a <;> rfl⟩
  exact Cert.Reference2Ideal.Read.residual_apply _ _ _ _ _ b t d

end Cert.Kernel3Ideal.Ffn

namespace Cert

open Idealize.ShloMosaic Idealize.ShloMosaic.TcCoe Idealize.SL.Sem

/-- The mask's indices are the rows before the appended ones. -/
theorem row_of_mask {a0 a1 a2 a3 a4} (i : (⟨3, ![2, 16400, 2048]⟩ : Shape).Idx)
    (h : Cert.On_written_rows.fn (F := Ideal) a0 a1 a2 a3 a4 i = 1#1) : (i 1).val < 16384 := by
  have hi : (i 1).val < 16400 := (i 1).isLt
  have h' : IntOp.cmpi .slt (BitVec.ofNat 32 (i 1).val) (BitVec.ofNat 32 16384) = 1#1 := h
  rw [WordCmp.cmpi_slt_ofNat (by norm_num; omega) (by norm_num)] at h'
  by_contra hc
  rw [decide_eq_false hc] at h'
  exact absurd h' (by decide)

/-- The call and the reference leave the same array at the rows the call writes. -/
theorem ffn_main_algebraic : algebraic_Kernel3Ideal_Reference3Ideal_on_written_rows (hKernel3Ideal := Cert.Kernel3Ideal.Gen.facts)
    (hReference3Ideal := Cert.Reference3Ideal.Gen.facts) (hOn_written_rows := Cert.On_written_rows.Gen.facts) := by
  intro m g m' g' _ hagree
  refine ⟨fun c => Cert.Kernel3Ideal.Ffn.G m c, ?_, ?_⟩
  · refine (θ_run _ _ _).mono (fun r h c => ⟨fun i hi => ?_, h.2.1 c⟩)
      (θ_run_and ((θ_run _ _ _).mono (fun _ h => h.1) (Cert.Kernel3Ideal.Ffn.run_main_quiescent m g)) (Cert.Kernel3Ideal.Ffn.frame m g))
    exact (congrFun ((h.1 c).1 5) i).trans (Cert.Kernel3Ideal.Ffn.arr_apply m c i (row_of_mask i hi))
  · refine (θ_run _ _ _).mono (fun r h c => ⟨fun i _ => ?_, (h c).2⟩) (Cert.Reference3Ideal.Value.run m' g')
    obtain ⟨e0, e1, e2, e3, e4⟩ := hagree c
    rw [(h c).1, Cert.Reference3Ideal.Read.val_main_v30_eq, e0, e1, e2, e3, e4]
    exact congrFun (Cert.Kernel3Ideal.Ffn.reference_eq m c) i

end Cert

end
-- ==== Proof.MixValue.lean ====
/-
  The mixers' output projection, its value: on the rows the kernel writes, the row plus the gated sum of the two mixers' projections
  carried through the output projection over the whole inner axis.
-/
module

public import proofs.«01_k».proof.Proof.Gen.Kernel4Ideal.Value
public import Idealize.ShloMosaic.Lib.Pipeline.ValueKit
public import Idealize.ShloMosaic.Lib.Pointwise
public import Idealize.ShloMosaic.Lib.ValueIdx

@[expose] public section

noncomputable section

namespace Cert.Kernel4Ideal.Mix

open Cert.Kernel4Ideal Cert.Kernel4Ideal.Gen Idealize.ShloMosaic Idealize.ShloMosaic.TcCoe Idealize.SL.Sem

theorem hz3 : (![0, 0, 0] : Fin 3 → Nat) = fun _ => 0 := funext fun a => by fin_cases a <;> rfl

/-! ## What a point leaves in its block -/

section
variable {F : FTy → Type} [FloatOps F]

/-- A point's output block, of its input blocks: the rows, plus the first 1024 inner columns' share, plus the last 1024's. -/
def mix (x0 : Vec F S1x256x2048 .f32) (x1 x2 : Vec F S1x256x2048 .bf16) (x3 : Vec F S1x256x1024 .bf16) (x4 : Vec F S1x2048x2048 .bf16)
    (x5 : Vec F S1x1024x2048 .bf16) (x6 : Vec F S1x2048x4096 .bf16) (x7 : Vec F S1x2048x2048 .bf16) : Vec F S1x256x2048 .f32 :=
  k0_pay1
    (k0_pay7 (k0_pay2 x1) (k0_pay3 x2) (k0_pay4 x3)
      (View.ld x4 (Rect.unit (s := S1x2048x2048) ![0, 0, 1024] S1x2048x1024.size inb_S1x2048x2048_S1x2048x1024_0_0_1024))
      (View.ld x5 (Rect.unit (s := S1x1024x2048) ![0, 0, 1024] S1x1024x1024.size inb_S1x1024x2048_S1x1024x1024_0_0_1024))
      (View.ld x6 (Rect.unit (s := S1x2048x4096) ![0, 0, 1024] S1x2048x1024.size inb_S1x2048x4096_S1x2048x1024_0_0_1024))
      (View.ld x6 (Rect.unit (s := S1x2048x4096) ![0, 0, 3072] S1x2048x1024.size inb_S1x2048x4096_S1x2048x1024_0_0_3072)))
    (k0_pay8 (k0_pay6
      (k0_pay5 x1 x2 x3
        (View.ld x4 (Rect.unit (s := S1x2048x2048) ![0, 0, 0] S1x2048x1024.size inb_S1x2048x2048_S1x2048x1024_0_0_0))
        (View.ld x5 (Rect.unit (s := S1x1024x2048) ![0, 0, 0] S1x1024x1024.size inb_S1x1024x2048_S1x1024x1024_0_0_0))
        (View.ld x6 (Rect.unit (s := S1x2048x4096) ![0, 0, 0] S1x2048x1024.size inb_S1x2048x4096_S1x2048x1024_0_0_0))
        (View.ld x6 (Rect.unit (s := S1x2048x4096) ![0, 0, 2048] S1x2048x1024.size inb_S1x2048x4096_S1x2048x1024_0_0_2048)))
      x0 (View.ld x7 (Rect.unit (s := S1x2048x2048) ![0, 0, 0] S1x1024x2048.size inb_S1x2048x2048_S1x1024x2048_0_0_0))))
    (View.ld x7 (Rect.unit (s := S1x2048x2048) ![0, 1024, 0] S1x1024x2048.size inb_S1x2048x2048_S1x1024x2048_0_1024_0))

variable (m : (ℓ : Loc nD τ sig) → Buf (Elt F) ℓ)

theorem outs_eq (c : Dev nD) (t : Fin cfg0.N) :
    outsAt0 m c t = mix (X0_0 m c t) (X0_1 m c t) (X0_2 m c t) (X0_3 m c t) (iblk m c 4 t) (iblk m c 5 t) (iblk m c 6 t) (iblk m c 7 t) := by
  unfold outsAt0
  generalize (X0_0 m c t : Vec F S1x256x2048 .f32) = x0
  generalize (X0_1 m c t : Vec F S1x256x2048 .bf16) = x1
  generalize (X0_2 m c t : Vec F S1x256x2048 .bf16) = x2
  generalize (X0_3 m c t : Vec F S1x256x1024 .bf16) = x3
  generalize (iblk m c 4 t : Vec F S1x2048x2048 .bf16) = x4
  generalize (iblk m c 5 t : Vec F S1x1024x2048 .bf16) = x5
  generalize (iblk m c 6 t : Vec F S1x2048x4096 .bf16) = x6
  generalize (iblk m c 7 t : Vec F S1x2048x2048 .bf16) = x7
  unfold out0_A_8
  rw [View.read_writes_eq_canon _ _ _ (cover0_A_8 c (grid0.coords t) _ _ _ _ _ _ _ _ _ _ _ _ _ _ _ _ _ _ x0 x1 x2 x3 x4 x5 x6 x7)]
  unfold kernelRun0_A
  dsimp only
  sl_unfold_words
  rw [View.canon_cons_unit_zero (S := S1x256x2048) hz3]
  simp only [View.readCov_unit_zero (S := S1x256x2048) _ hz3, View.readAt_eq_ld,
    (hs0_0 t).read_unread, (hs0_1 t).read_unread, (hs0_2 t).read_unread, (hs0_3 t).read_unread, (hs0_4 t).read_unread, (hs0_5 t).read_unread,
    (hs0_6 t).read_unread, (hs0_7 t).read_unread, View.ld_unit_zero (S := S1x256x2048) hz3, View.ld_unit_zero (S := S1x256x1024) hz3]
  rw [View.readCov_cons_unit_lit' (S := S1x256x2048) _ _ _ _ _ (by decide) (by decide)]
  rfl

end

/-! ## The payloads, entry by entry -/

/-- One inner unit of a row: the attention's projection and the second mixer's, each under its gate. -/
def unit (xn at' : Fin 2048 → EReal) (fo : Fin 1024 → EReal) (wa : Fin 2048 → EReal) (wf : Fin 1024 → EReal) (ga gf : Fin 2048 → EReal) : EReal :=
  Ideal.logistic (∑ k, xn k * ga k) * (∑ k, at' k * wa k) + Ideal.logistic (∑ k, xn k * gf k) * (∑ k, fo k * wf k)

section
variable (x0 : Vec Ideal S1x256x2048 .f32) (x1 x2 : Vec Ideal S1x256x2048 .bf16) (x3 : Vec Ideal S1x256x1024 .bf16)
  (w4 : Vec Ideal S1x2048x1024 .bf16) (w5 : Vec Ideal S1x1024x1024 .bf16) (w6 w6' : Vec Ideal S1x2048x1024 .bf16)

theorem pay5_apply (r : Fin 256) (f : Fin 1024) :
    k0_pay5 x1 x2 x3 w4 w5 w6 w6' (ix2 r f)
      = unit (fun k => x1 (ix3 0 r k)) (fun k => x2 (ix3 0 r k)) (fun k => x3 (ix3 0 r k))
          (fun k => w4 (ix3 0 k f)) (fun k => w5 (ix3 0 k f)) (fun k => w6 (ix3 0 k f)) (fun k => w6' (ix3 0 k f)) := by
  unfold k0_pay5 k0_pay2 k0_pay3 k0_pay4
  pointwise
  rfl

theorem pay7_apply (r : Fin 256) (f : Fin 1024) :
    k0_pay7 (k0_pay2 x1) (k0_pay3 x2) (k0_pay4 x3) w4 w5 w6 w6' (ix2 r f)
      = unit (fun k => x1 (ix3 0 r k)) (fun k => x2 (ix3 0 r k)) (fun k => x3 (ix3 0 r k))
          (fun k => w4 (ix3 0 k f)) (fun k => w5 (ix3 0 k f)) (fun k => w6 (ix3 0 k f)) (fun k => w6' (ix3 0 k f)) :=
  (congrFun (show k0_pay7 (k0_pay2 x1) (k0_pay3 x2) (k0_pay4 x3) w4 w5 w6 w6' = k0_pay5 x1 x2 x3 w4 w5 w6 w6' from rfl) _).trans
    (pay5_apply x1 x2 x3 w4 w5 w6 w6' r f)

theorem add_apply (a : Vec Ideal S256x1024 .bf16) (a' : Vec Ideal S256x1024 .bf16) (w w' : Vec Ideal S1x1024x2048 .bf16) (r : Fin 256) (d : Fin 2048) :
    k0_pay1 a' (k0_pay8 (k0_pay6 a x0 w)) w' (ix3 0 r d)
      = x0 (ix3 0 r d) + (∑ f, a (ix2 r f) * w (ix3 0 f d)) + ∑ f, a' (ix2 r f) * w' (ix3 0 f d) := by
  unfold k0_pay1 k0_pay8 k0_pay6
  simp only [shapeCast_self]
  pointwise
end

/-- Inner unit `k` of the whole blocks, its share of the output entry `d` (nothing past the last unit). -/
def blockTerm (x4 : Vec Ideal S1x2048x2048 .bf16) (x5 : Vec Ideal S1x1024x2048 .bf16) (x6 : Vec Ideal S1x2048x4096 .bf16)
    (x7 : Vec Ideal S1x2048x2048 .bf16) (xn at' : Fin 2048 → EReal) (fo : Fin 1024 → EReal) (d : Fin 2048) (k : ℕ) : EReal :=
  if h : k < 2048 then
    unit xn at' fo (fun x => x4 (ix3 0 x ⟨k, h⟩)) (fun x => x5 (ix3 0 x ⟨k, h⟩)) (fun x => x6 (ix3 0 x ⟨k, by omega⟩))
      (fun x => x6 (ix3 0 x ⟨2048 + k, by omega⟩)) * x7 (ix3 0 ⟨k, h⟩ d)
  else 0

/-- A load of some of a block's columns, at an entry. -/
theorem ld_cols {e : EltTy} {b c s o : ℕ} (w : Vec Ideal ⟨3, ![1, b, c]⟩ e)
    (h : ∀ x, (![0, 0, o] : Fin 3 → ℕ) x + (⟨3, ![1, b, s]⟩ : Shape).size x ≤ (⟨3, ![1, b, c]⟩ : Shape).size x) (j : Fin b) (f : Fin s)
    (f' : Fin c) (hf : o + f.val = f'.val) :
    View.ld w (Rect.unit (s := ⟨3, ![1, b, c]⟩) ![0, 0, o] (⟨3, ![1, b, s]⟩ : Shape).size h) (ix3 0 j f) = w (ix3 0 j f') :=
  View.ld_unit_apply_of w _ _ h (ix3 0 j f) (ix3 0 j f') fun x => match x with
    | ⟨0, _⟩ => rfl
    | ⟨1, _⟩ => (Nat.zero_add _).symm
    | ⟨2, _⟩ => hf.symm

/-- A load of some of a block's rows, at an entry. -/
theorem ld_rows {e : EltTy} {b c s o : ℕ} (w : Vec Ideal ⟨3, ![1, b, c]⟩ e)
    (h : ∀ x, (![0, o, 0] : Fin 3 → ℕ) x + (⟨3, ![1, s, c]⟩ : Shape).size x ≤ (⟨3, ![1, b, c]⟩ : Shape).size x) (f : Fin s) (d : Fin c)
    (f' : Fin b) (hf : o + f.val = f'.val) :
    View.ld w (Rect.unit (s := ⟨3, ![1, b, c]⟩) ![0, o, 0] (⟨3, ![1, s, c]⟩ : Shape).size h) (ix3 0 f d) = w (ix3 0 f' d) :=
  View.ld_unit_apply_of w _ _ h (ix3 0 f d) (ix3 0 f' d) fun x => match x with
    | ⟨0, _⟩ => rfl
    | ⟨1, _⟩ => hf.symm
    | ⟨2, _⟩ => (Nat.zero_add _).symm

theorem mix_apply (x0 : Vec Ideal S1x256x2048 .f32) (x1 x2 : Vec Ideal S1x256x2048 .bf16) (x3 : Vec Ideal S1x256x1024 .bf16)
    (x4 : Vec Ideal S1x2048x2048 .bf16) (x5 : Vec Ideal S1x1024x2048 .bf16) (x6 : Vec Ideal S1x2048x4096 .bf16)
    (x7 : Vec Ideal S1x2048x2048 .bf16) (r : Fin 256) (d : Fin 2048) :
    mix x0 x1 x2 x3 x4 x5 x6 x7 (ix3 0 r d)
      = x0 (ix3 0 r d) + ∑ k ∈ Finset.range 2048, blockTerm x4 x5 x6 x7
          (fun k => x1 (ix3 0 r k)) (fun k => x2 (ix3 0 r k)) (fun k => x3 (ix3 0 r k)) d k := by
  unfold mix
  rw [add_apply, add_assoc, Finset.sum_range_add _ 1024 1024, Finset.sum_range, Finset.sum_range]
  refine congrArg (x0 (ix3 0 r d) + ·) (congrArg₂ (· + ·) ?_ ?_)
  · refine Finset.sum_congr rfl fun f _ => ?_
    rw [pay5_apply]
    unfold blockTerm
    rw [dif_pos (show f.val < 2048 by omega)]
    refine congrArg₂ (· * ·) ?_ (ld_rows x7 _ f d _ (Nat.zero_add _))
    congr 1 <;> funext x
    · exact ld_cols x4 _ x f _ (Nat.zero_add _)
    · exact ld_cols x5 _ x f _ (Nat.zero_add _)
    · exact ld_cols x6 _ x f _ (Nat.zero_add _)
    · exact ld_cols x6 _ x f _ rfl
  · refine Finset.sum_congr rfl fun f _ => ?_
    rw [pay7_apply]
    unfold blockTerm
    rw [dif_pos (show 1024 + f.val < 2048 by omega)]
    refine congrArg₂ (· * ·) ?_ (ld_rows x7 _ f d _ rfl)
    congr 1 <;> funext x
    · exact ld_cols x4 _ x f _ rfl
    · exact ld_cols x5 _ x f _ rfl
    · exact ld_cols x6 _ x f _ rfl
    · exact ld_cols x6 _ x f _ (show 3072 + f.val = 2048 + (1024 + f.val) by omega)

/-! ## The blocks a point reads -/

variable (m : (ℓ : Loc nD τ sig) → Buf (Elt Ideal) ℓ) (c : Dev nD)

abbrev H : Vec Ideal S2x16400x2048 .f32 := m ((c : Thread nD τ).loc main_arg0)
abbrev Xn : Vec Ideal S2x16400x2048 .bf16 := m ((c : Thread nD τ).loc main_arg1)
abbrev At : Vec Ideal S2x16400x2048 .bf16 := m ((c : Thread nD τ).loc main_arg2)
abbrev Fo : Vec Ideal S2x16400x1024 .bf16 := m ((c : Thread nD τ).loc main_arg3)
abbrev Wa : Vec Ideal S2x2048x2048 .bf16 := m ((c : Thread nD τ).loc main_arg4)
abbrev Wf : Vec Ideal S2x1024x2048 .bf16 := m ((c : Thread nD τ).loc main_arg5)
abbrev Wg : Vec Ideal S2x2048x4096 .bf16 := m ((c : Thread nD τ).loc main_arg6)
abbrev Wo : Vec Ideal S2x2048x2048 .bf16 := m ((c : Thread nD τ).loc main_arg7)

/-- The row windows' block is the point's, the weight windows' the second layer's. -/
theorem idx_facts : ∀ t : Fin cfg0.N,
    (win0_0.index t (0 : Fin 3) = t.val / 64 ∧ win0_0.index t (1 : Fin 3) = t.val % 64 ∧ win0_0.index t (2 : Fin 3) = 0)
    ∧ (win0_1.index t (0 : Fin 3) = t.val / 64 ∧ win0_1.index t (1 : Fin 3) = t.val % 64 ∧ win0_1.index t (2 : Fin 3) = 0)
    ∧ (win0_2.index t (0 : Fin 3) = t.val / 64 ∧ win0_2.index t (1 : Fin 3) = t.val % 64 ∧ win0_2.index t (2 : Fin 3) = 0)
    ∧ (win0_3.index t (0 : Fin 3) = t.val / 64 ∧ win0_3.index t (1 : Fin 3) = t.val % 64 ∧ win0_3.index t (2 : Fin 3) = 0)
    ∧ (win0_4.index t (0 : Fin 3) = 1 ∧ win0_4.index t (1 : Fin 3) = 0 ∧ win0_4.index t (2 : Fin 3) = 0)
    ∧ (win0_5.index t (0 : Fin 3) = 1 ∧ win0_5.index t (1 : Fin 3) = 0 ∧ win0_5.index t (2 : Fin 3) = 0)
    ∧ (win0_6.index t (0 : Fin 3) = 1 ∧ win0_6.index t (1 : Fin 3) = 0 ∧ win0_6.index t (2 : Fin 3) = 0)
    ∧ (win0_7.index t (0 : Fin 3) = 1 ∧ win0_7.index t (1 : Fin 3) = 0 ∧ win0_7.index t (2 : Fin 3) = 0)
    ∧ (win0_8.index t (0 : Fin 3) = t.val / 64 ∧ win0_8.index t (1 : Fin 3) = t.val % 64 ∧ win0_8.index t (2 : Fin 3) = 0) :=
  (by decide +kernel : ∀ t : Fin grid0.N, _)

/-- An index of three axes is the one of its coordinates. -/
theorem eq_of_vals {p q s : ℕ} (i : (⟨3, ![p, q, s]⟩ : Shape).Idx) (a : Fin p) (b : Fin q) (e : Fin s) (ha : (i 0).val = a.val)
    (hb : (i 1).val = b.val) (he : (i 2).val = e.val) : i = ix3 a b e :=
  funext fun x => Fin.ext (match x with
    | ⟨0, _⟩ => ha
    | ⟨1, _⟩ => hb
    | ⟨2, _⟩ => he)

theorem X0_apply (t : Fin cfg0.N) (r : Fin 256) (d : Fin 2048) (hb : t.val / 64 < 2) (hr : 256 * (t.val % 64) + r.val < 16400) :
    (X0_0 m c t : Vec Ideal S1x256x2048 .f32) (ix3 0 r d) = H m c (ix3 ⟨t.val / 64, hb⟩ ⟨256 * (t.val % 64) + r.val, hr⟩ d) := by
  obtain ⟨⟨e0, e1, e2⟩, -⟩ := idx_facts t
  show (cfg0.win 0).fill (cfg0.grid.coords t) dflt0_0 (iblk m c 0 t) (ix3 0 r d) = _
  unfold Pipeline.Window.fill
  rw [dif_pos (moved0_0 t _)]
  unfold iblk
  rw [View.read_apply]
  refine congrArg (m ((c : Thread nD τ).loc main_arg0)) (eq_of_vals _ _ _ _ ?_ ?_ ?_)
  · show win0_0.index t (0 : Fin 3) * 1 + 1 * 0 = t.val / 64; omega
  · show win0_0.index t (1 : Fin 3) * 256 + 1 * r.val = 256 * (t.val % 64) + r.val; omega
  · show win0_0.index t (2 : Fin 3) * 2048 + 1 * d.val = d.val; omega

theorem X1_apply (t : Fin cfg0.N) (r : Fin 256) (d : Fin 2048) (hb : t.val / 64 < 2) (hr : 256 * (t.val % 64) + r.val < 16400) :
    (X0_1 m c t : Vec Ideal S1x256x2048 .bf16) (ix3 0 r d) = Xn m c (ix3 ⟨t.val / 64, hb⟩ ⟨256 * (t.val % 64) + r.val, hr⟩ d) := by
  obtain ⟨-, ⟨e0, e1, e2⟩, -⟩ := idx_facts t
  show (cfg0.win 1).fill (cfg0.grid.coords t) dflt0_1 (iblk m c 1 t) (ix3 0 r d) = _
  unfold Pipeline.Window.fill
  rw [dif_pos (moved0_1 t _)]
  unfold iblk
  rw [View.read_apply]
  refine congrArg (m ((c : Thread nD τ).loc main_arg1)) (eq_of_vals _ _ _ _ ?_ ?_ ?_)
  · show win0_1.index t (0 : Fin 3) * 1 + 1 * 0 = t.val / 64; omega
  · show win0_1.index t (1 : Fin 3) * 256 + 1 * r.val = 256 * (t.val % 64) + r.val; omega
  · show win0_1.index t (2 : Fin 3) * 2048 + 1 * d.val = d.val; omega

theorem X2_apply (t : Fin cfg0.N) (r : Fin 256) (d : Fin 2048) (hb : t.val / 64 < 2) (hr : 256 * (t.val % 64) + r.val < 16400) :
    (X0_2 m c t : Vec Ideal S1x256x2048 .bf16) (ix3 0 r d) = At m c (ix3 ⟨t.val / 64, hb⟩ ⟨256 * (t.val % 64) + r.val, hr⟩ d) := by
  obtain ⟨-, -, ⟨e0, e1, e2⟩, -⟩ := idx_facts t
  show (cfg0.win 2).fill (cfg0.grid.coords t) dflt0_2 (iblk m c 2 t) (ix3 0 r d) = _
  unfold Pipeline.Window.fill
  rw [dif_pos (moved0_2 t _)]
  unfold iblk
  rw [View.read_apply]
  refine congrArg (m ((c : Thread nD τ).loc main_arg2)) (eq_of_vals _ _ _ _ ?_ ?_ ?_)
  · show win0_2.index t (0 : Fin 3) * 1 + 1 * 0 = t.val / 64; omega
  · show win0_2.index t (1 : Fin 3) * 256 + 1 * r.val = 256 * (t.val % 64) + r.val; omega
  · show win0_2.index t (2 : Fin 3) * 2048 + 1 * d.val = d.val; omega

theorem X3_apply (t : Fin cfg0.N) (r : Fin 256) (d : Fin 1024) (hb : t.val / 64 < 2) (hr : 256 * (t.val % 64) + r.val < 16400) :
    (X0_3 m c t : Vec Ideal S1x256x1024 .bf16) (ix3 0 r d) = Fo m c (ix3 ⟨t.val / 64, hb⟩ ⟨256 * (t.val % 64) + r.val, hr⟩ d) := by
  obtain ⟨-, -, -, ⟨e0, e1, e2⟩, -⟩ := idx_facts t
  show (cfg0.win 3).fill (cfg0.grid.coords t) dflt0_3 (iblk m c 3 t) (ix3 0 r d) = _
  unfold Pipeline.Window.fill
  rw [dif_pos (moved0_3 t _)]
  unfold iblk
  rw [View.read_apply]
  refine congrArg (m ((c : Thread nD τ).loc main_arg3)) (eq_of_vals _ _ _ _ ?_ ?_ ?_)
  · show win0_3.index t (0 : Fin 3) * 1 + 1 * 0 = t.val / 64; omega
  · show win0_3.index t (1 : Fin 3) * 256 + 1 * r.val = 256 * (t.val % 64) + r.val; omega
  · show win0_3.index t (2 : Fin 3) * 1024 + 1 * d.val = d.val; omega

theorem blk4_apply (t : Fin cfg0.N) (x : Fin 2048) (d : Fin 2048) :
    (iblk m c 4 t : Vec Ideal S1x2048x2048 .bf16) (ix3 0 x d) = Wa m c (ix3 1 x d) := by
  obtain ⟨-, -, -, -, ⟨e0, e1, e2⟩, -⟩ := idx_facts t
  unfold iblk
  rw [View.read_apply]
  refine congrArg (m ((c : Thread nD τ).loc main_arg4)) (eq_of_vals _ _ _ _ ?_ ?_ ?_)
  · show win0_4.index t (0 : Fin 3) * 1 + 1 * 0 = 1; omega
  · show win0_4.index t (1 : Fin 3) * 2048 + 1 * x.val = x.val; omega
  · show win0_4.index t (2 : Fin 3) * 2048 + 1 * d.val = d.val; omega

theorem blk5_apply (t : Fin cfg0.N) (x : Fin 1024) (d : Fin 2048) :
    (iblk m c 5 t : Vec Ideal S1x1024x2048 .bf16) (ix3 0 x d) = Wf m c (ix3 1 x d) := by
  obtain ⟨-, -, -, -, -, ⟨e0, e1, e2⟩, -⟩ := idx_facts t
  unfold iblk
  rw [View.read_apply]
  refine congrArg (m ((c : Thread nD τ).loc main_arg5)) (eq_of_vals _ _ _ _ ?_ ?_ ?_)
  · show win0_5.index t (0 : Fin 3) * 1 + 1 * 0 = 1; omega
  · show win0_5.index t (1 : Fin 3) * 1024 + 1 * x.val = x.val; omega
  · show win0_5.index t (2 : Fin 3) * 2048 + 1 * d.val = d.val; omega

theorem blk6_apply (t : Fin cfg0.N) (x : Fin 2048) (d : Fin 4096) :
    (iblk m c 6 t : Vec Ideal S1x2048x4096 .bf16) (ix3 0 x d) = Wg m c (ix3 1 x d) := by
  obtain ⟨-, -, -, -, -, -, ⟨e0, e1, e2⟩, -⟩ := idx_facts t
  unfold iblk
  rw [View.read_apply]
  refine congrArg (m ((c : Thread nD τ).loc main_arg6)) (eq_of_vals _ _ _ _ ?_ ?_ ?_)
  · show win0_6.index t (0 : Fin 3) * 1 + 1 * 0 = 1; omega
  · show win0_6.index t (1 : Fin 3) * 2048 + 1 * x.val = x.val; omega
  · show win0_6.index t (2 : Fin 3) * 4096 + 1 * d.val = d.val; omega

theorem blk7_apply (t : Fin cfg0.N) (x : Fin 2048) (d : Fin 2048) :
    (iblk m c 7 t : Vec Ideal S1x2048x2048 .bf16) (ix3 0 x d) = Wo m c (ix3 1 x d) := by
  obtain ⟨-, -, -, -, -, -, -, ⟨e0, e1, e2⟩, -⟩ := idx_facts t
  unfold iblk
  rw [View.read_apply]
  refine congrArg (m ((c : Thread nD τ).loc main_arg7)) (eq_of_vals _ _ _ _ ?_ ?_ ?_)
  · show win0_7.index t (0 : Fin 3) * 1 + 1 * 0 = 1; omega
  · show win0_7.index t (1 : Fin 3) * 2048 + 1 * x.val = x.val; omega
  · show win0_7.index t (2 : Fin 3) * 2048 + 1 * d.val = d.val; omega

/-! ## The array the call leaves -/

/-- One entry of a row's result: the entry plus every inner unit's share. -/
def entry (h : EReal) (xn at' : Fin 2048 → EReal) (fo : Fin 1024 → EReal) (wa : Vec Ideal S2x2048x2048 .bf16) (wf : Vec Ideal S2x1024x2048 .bf16)
    (wg : Vec Ideal S2x2048x4096 .bf16) (wo : Vec Ideal S2x2048x2048 .bf16) (d : Fin 2048) : EReal :=
  h + ∑ k : Fin 2048, unit xn at' fo (fun x => wa (ix3 1 x k)) (fun x => wf (ix3 1 x k)) (fun x => wg (ix3 1 x ⟨k.val, by omega⟩))
    (fun x => wg (ix3 1 x ⟨2048 + k.val, by omega⟩)) * wo (ix3 1 k d)

/-- The result at every row. -/
def G : Vec Ideal S2x16400x2048 .f32 := fun i =>
  entry (H m c i) (fun k => Xn m c (ix3 (i 0) (i 1) k)) (fun k => At m c (ix3 (i 0) (i 1) k)) (fun k => Fo m c (ix3 (i 0) (i 1) k))
    (Wa m c) (Wf m c) (Wg m c) (Wo m c) (i 2)

theorem outs_apply (t : Fin cfg0.N) (r : Fin 256) (d : Fin 2048) (hb : t.val / 64 < 2) (hr : 256 * (t.val % 64) + r.val < 16400) :
    outsAt0 m c t (ix3 0 r d) = G m c (ix3 ⟨t.val / 64, hb⟩ ⟨256 * (t.val % 64) + r.val, hr⟩ d) := by
  rw [outs_eq, mix_apply, X0_apply m c t r d hb hr]
  simp only [X1_apply m c t r _ hb hr, X2_apply m c t r _ hb hr, X3_apply m c t r _ hb hr]
  unfold G entry
  rw [Finset.sum_range]
  refine congrArg (H m c _ + ·) (Finset.sum_congr rfl fun k _ => ?_)
  unfold blockTerm
  rw [dif_pos k.isLt]
  refine congrArg₂ (· * ·) ?_ (blk7_apply m c t k d)
  simp only [blk4_apply m c t, blk5_apply m c t, blk6_apply m c t]
  rfl

/-- No write-back is cut. -/
theorem xsize_8 : ∀ t : Fin cfg0.N, ∀ a, (cfg0.win 8).xsize (cfg0.grid.coords t) a = (cfg0.win 8).size a := by decide +kernel

/-- A point writes its block of the result. -/
theorem flushed_eq (t : Fin cfg0.N) (y : ((cfg0.win 8).xblock (cfg0.grid.coords t)).Idx) :
    (dats m 0 c).after 8 t ((cfg0.win 8).xinj (cfg0.grid.coords t) y) = G m c (((cfg0.win 8).blk t).view.emb y) := by
  have hN : t.val < 128 := lt_of_lt_of_eq t.isLt N_0
  obtain ⟨-, -, -, -, -, -, -, -, ⟨e0, e1, e2⟩⟩ := idx_facts t
  have hx := xsize_8 t
  have hy0 : (y 0).val < 1 := lt_of_lt_of_eq (y 0).isLt (hx 0)
  have hy1 : (y 1).val < 256 := lt_of_lt_of_eq (y 1).isLt (hx 1)
  have hy2 : (y 2).val < 2048 := lt_of_lt_of_eq (y 2).isLt (hx 2)
  obtain ⟨n0, hn0⟩ : ∃ n, n = (y 0).val := ⟨_, rfl⟩
  obtain ⟨n1, hn1⟩ : ∃ n, n = (y 1).val := ⟨_, rfl⟩
  obtain ⟨n2, hn2⟩ : ∃ n, n = (y 2).val := ⟨_, rfl⟩
  rw [← hn0] at hy0
  rw [← hn1] at hy1
  rw [← hn2] at hy2
  have hi : (((cfg0.win 8).blk t).view.emb y : S2x16400x2048.Idx)
      = ix3 ⟨t.val / 64, by omega⟩ ⟨256 * (t.val % 64) + n1, by omega⟩ ⟨n2, hy2⟩ := by
    refine eq_of_vals _ _ _ _ ?_ ?_ ?_
    · show win0_8.index t (0 : Fin 3) * 1 + 1 * (y 0).val = t.val / 64; rw [← hn0]; omega
    · show win0_8.index t (1 : Fin 3) * 256 + 1 * (y 1).val = 256 * (t.val % 64) + n1; rw [← hn1]; omega
    · show win0_8.index t (2 : Fin 3) * 2048 + 1 * (y 2).val = n2; rw [← hn2]; omega
  have hj : ((cfg0.win 8).xinj (cfg0.grid.coords t) y : S1x256x2048.Idx) = ix3 0 ⟨n1, hy1⟩ ⟨n2, hy2⟩ := by
    refine eq_of_vals _ _ _ _ ?_ hn1.symm hn2.symm
    show (y 0).val = 0; rw [← hn0]; omega
  rw [after0_8]
  refine (congrArg (outsAt0 m c t) hj).trans (Eq.trans ?_ (congrArg (G m c) hi).symm)
  exact outs_apply m c t ⟨n1, hy1⟩ ⟨n2, hy2⟩ (by omega) (by show 256 * (t.val % 64) + n1 < 16400; omega)

theorem mem_blk (t : Fin cfg0.N) (i : S2x16400x2048.Idx) :
    i ∈ ((cfg0.win 8).blk t).view.set ↔ ∀ a : Fin 3, win0_8.index t a * S1x256x2048.size a ≤ (i a).val
      ∧ (i a).val < win0_8.index t a * S1x256x2048.size a + (win0_8.xsize (grid0.coords t) a) := by
  show i ∈ ((View.whole main_v0).slice (win0_8.rect t)).set ↔ _
  rw [View.set_slice_whole, Rect.mem_set_unit]
  exact Iff.rfl

/-- A row before the appended ones is in a point's block. -/
theorem covered (i : S2x16400x2048.Idx) (h : (i 1).val < 16384) : ∃ t : Fin cfg0.N, i ∈ ((cfg0.win 8).blk t).view.set := by
  have h0 : (i 0).val < 2 := (i 0).isLt
  have h2 : (i 2).val < 2048 := (i 2).isLt
  let t : Fin cfg0.N := ⟨64 * (i 0).val + (i 1).val / 256, lt_of_lt_of_eq (by omega) N_0.symm⟩
  have ht : t.val = 64 * (i 0).val + (i 1).val / 256 := rfl
  obtain ⟨-, -, -, -, -, -, -, -, ⟨e0, e1, e2⟩⟩ := idx_facts t
  have x0 : win0_8.xsize (grid0.coords t) (0 : Fin 3) = 1 := xsize_8 t 0
  have x1 : win0_8.xsize (grid0.coords t) (1 : Fin 3) = 256 := xsize_8 t 1
  have x2 : win0_8.xsize (grid0.coords t) (2 : Fin 3) = 2048 := xsize_8 t 2
  refine ⟨t, (mem_blk t i).mpr fun a => ?_⟩
  match a with
  | ⟨0, _⟩ =>
    show win0_8.index t (0 : Fin 3) * 1 ≤ (i 0).val ∧ (i 0).val < win0_8.index t (0 : Fin 3) * 1 + win0_8.xsize (grid0.coords t) (0 : Fin 3)
    omega
  | ⟨1, _⟩ =>
    show win0_8.index t (1 : Fin 3) * 256 ≤ (i 1).val ∧ (i 1).val < win0_8.index t (1 : Fin 3) * 256 + win0_8.xsize (grid0.coords t) (1 : Fin 3)
    omega
  | ⟨2, _⟩ =>
    show win0_8.index t (2 : Fin 3) * 2048 ≤ (i 2).val ∧ (i 2).val < win0_8.index t (2 : Fin 3) * 2048 + win0_8.xsize (grid0.coords t) (2 : Fin 3)
    omega

/-- The array at those rows after the run. -/
theorem arr_apply (i : S2x16400x2048.Idx) (h : (i 1).val < 16384) :
    ((dats m 0 c).arrAt 8 cfg0.N : Vec Ideal S2x16400x2048 .f32) i = G m c i := by
  obtain ⟨t, hi⟩ := covered i h
  exact (dats m 0 c).arrAt_forall_of_flushed 8 (fun i v => v = G m c i) (fun t _ y => flushed_eq m c t y) cfg0.N t i t.isLt (flush0_8 t) hi

end Cert.Kernel4Ideal.Mix

end
-- ==== Proof.MixClaim.lean ====
/-
  The mixers' output projection, its value claim: the reference's stages read entry by entry, and the two results equal on the rows the
  kernel writes.
-/
module

public import proofs.«01_k».proof.Proof.MixValue
public import proofs.«01_k».proof.Proof.Gen.Reference4Ideal.Read
public import proofs.«01_k».proof.Proof.Gen.On_mixed_rows
public import proofs.«01_k».proof.Defs
public import Idealize.ShloMosaic.Lib.WordCmp

@[expose] public section

noncomputable section

namespace Cert.Reference4Ideal.Read

open Cert.Reference4Ideal Cert.Reference4Ideal.Gen Idealize.ShloMosaic Idealize.ShloMosaic.TcCoe Idealize.SL.Sem
open Cert.Kernel4Ideal.Mix (unit entry)

variable (x0 : (⟨S2x16400x2048, .f32⟩ : BufTy).Contents (Elt Ideal)) (x1 x2 : (⟨S2x16400x2048, .bf16⟩ : BufTy).Contents (Elt Ideal))
  (x3 : (⟨S2x16400x1024, .bf16⟩ : BufTy).Contents (Elt Ideal)) (x4 : (⟨S2x2048x2048, .bf16⟩ : BufTy).Contents (Elt Ideal))
  (x5 : (⟨S2x1024x2048, .bf16⟩ : BufTy).Contents (Elt Ideal)) (x6 : (⟨S2x2048x4096, .bf16⟩ : BufTy).Contents (Elt Ideal))
  (x7 : (⟨S2x2048x2048, .bf16⟩ : BufTy).Contents (Elt Ideal))

theorem gate_apply (b : Fin 2) (t : Fin 16400) (k : Fin 4096) :
    val_main_v21 (F := Ideal) x1 x6 (ix3 b t k) = Ideal.logistic (∑ x, x1 (ix3 b t x) * x6 (ix3 1 x k)) := by
  pointwise [val_main_v21, val_main_v20, val_main_v19, val_main_v18, val_main_v17, val_main_v16, val_main_v15, val_main_v14, val_main_v13, val_main_v5, val_main_v0, val_main_cst, val_main_cst_0]
  rfl

theorem mixed_apply (b : Fin 2) (t : Fin 16400) (k : Fin 2048) :
    val_main_v26 (F := Ideal) x1 x2 x3 x4 x5 x6 (ix3 b t k)
      = unit (fun x => x1 (ix3 b t x)) (fun x => x2 (ix3 b t x)) (fun x => x3 (ix3 b t x)) (fun x => x4 (ix3 1 x k)) (fun x => x5 (ix3 1 x k))
          (fun x => x6 (ix3 1 x ⟨k.val, by omega⟩)) (fun x => x6 (ix3 1 x ⟨2048 + k.val, by omega⟩)) := by
  pointwise [val_main_v26, val_main_v25, val_main_v24, val_main_v23, val_main_v22, val_main_v12, val_main_v11, val_main_v10, val_main_v9, val_main_v8, val_main_v7, val_main_v4, val_main_v3, val_main_v2, val_main_v1]
  simp only [gate_apply]
  rfl

theorem result_apply (b : Fin 2) (t : Fin 16400) (d : Fin 2048) :
    val_main_v30 (F := Ideal) x0 x1 x2 x3 x4 x5 x6 x7 (ix3 b t d)
      = entry (x0 (ix3 b t d)) (fun x => x1 (ix3 b t x)) (fun x => x2 (ix3 b t x)) (fun x => x3 (ix3 b t x)) x4 x5 x6 x7 d := by
  pointwise [val_main_v30, val_main_v29, val_main_v28, val_main_v27, val_main_v6]
  unfold entry
  refine congrArg (x0 (ix3 b t d) + ·) (Finset.sum_congr rfl fun k _ => ?_)
  rw [mixed_apply]

end Cert.Reference4Ideal.Read

namespace Cert.Kernel4Ideal.Mix

open Idealize.ShloMosaic Idealize.ShloMosaic.TcCoe Idealize.SL.Sem

/-- The reference's result of the kernel's arguments. -/
theorem reference_eq (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v30 (F := Ideal) (H m c) (Xn m c) (At m c) (Fo m c) (Wa m c) (Wf m c) (Wg m c) (Wo m c) = G m c := by
  funext i
  obtain ⟨b, t, d, rfl⟩ : ∃ (b : Fin 2) (t : Fin 16400) (d : Fin 2048), i = ix3 b t d :=
    ⟨i 0, i 1, i 2, by funext a; fin_cases a <;> rfl⟩
  exact Cert.Reference4Ideal.Read.result_apply _ _ _ _ _ _ _ _ b t d

end Cert.Kernel4Ideal.Mix

namespace Cert

open Idealize.ShloMosaic Idealize.ShloMosaic.TcCoe Idealize.SL.Sem

/-- The mask's indices are the rows before the appended ones. -/
theorem mixed_row_of_mask {a0 a1 a2 a3 a4 a5 a6 a7} (i : (⟨3, ![2, 16400, 2048]⟩ : Shape).Idx)
    (h : Cert.On_mixed_rows.fn (F := Ideal) a0 a1 a2 a3 a4 a5 a6 a7 i = 1#1) : (i 1).val < 16384 := by
  have hi : (i 1).val < 16400 := (i 1).isLt
  have h' : IntOp.cmpi .slt (BitVec.ofNat 32 (i 1).val) (BitVec.ofNat 32 16384) = 1#1 := h
  rw [WordCmp.cmpi_slt_ofNat (by norm_num; omega) (by norm_num)] at h'
  by_contra hc
  rw [decide_eq_false hc] at h'
  exact absurd h' (by decide)

/-- The call and the reference leave the same array at the rows the call writes. -/
theorem mix_algebraic : algebraic_Kernel4Ideal_Reference4Ideal_on_mixed_rows (hKernel4Ideal := Cert.Kernel4Ideal.Gen.facts)
    (hReference4Ideal := Cert.Reference4Ideal.Gen.facts) (hOn_mixed_rows := Cert.On_mixed_rows.Gen.facts) := by
  intro m g m' g' _ hagree
  refine ⟨fun c => Cert.Kernel4Ideal.Mix.G m c, ?_, ?_⟩
  · refine (θ_run _ _ _).mono (fun r h c => ⟨fun i hi => ?_, (h c).2⟩) (Cert.Kernel4Ideal.Value.run_blocks m g)
    exact (congrFun (h c).1 i).trans (Cert.Kernel4Ideal.Mix.arr_apply m c i (mixed_row_of_mask i hi))
  · refine (θ_run _ _ _).mono (fun r h c => ⟨fun i _ => ?_, (h c).2⟩) (Cert.Reference4Ideal.Value.run m' g')
    obtain ⟨e0, e1, e2, e3, e4, e5, e6, e7⟩ := hagree c
    rw [(h c).1, Cert.Reference4Ideal.Read.val_main_v30_eq, e0, e1, e2, e3, e4, e5, e6, e7]
    exact congrFun (Cert.Kernel4Ideal.Mix.reference_eq m c) i

end Cert

end
-- ==== Proof.ProjValue.lean ====
/-
  The mixers' input projection, its value: on the rows the kernel writes, the normed rows, their products with the projection's columns —
  the attention heads' rotated by the position's angles — and the last columns' products with the channel transform's two tables.
-/
module

public import proofs.«01_k».proof.Proof.Gen.Kernel5Ideal.Value
public import Idealize.ShloMosaic.Lib.Pipeline.ValueKit
public import Idealize.ShloMosaic.Lib.Pointwise
public import Idealize.ShloMosaic.Lib.ValueIdx
public import Idealize.ShloMosaic.PureOps.Ideal

@[expose] public section

noncomputable section

namespace Cert.Kernel5Ideal.Proj

open Cert.Kernel5Ideal Cert.Kernel5Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## The entries -/

/-- Entry `d` of a row normed by its mean square and scaled by the gain. -/
def norm (x g : Fin 2048 → EReal) (d : Fin 2048) : EReal :=
  x d * Ideal.rsqrt (Ideal.div (∑ k, x k * x k) (Ideal.ofBits .f32 0x45000000#32) + Ideal.ofBits .f32 0x358637BD#32) * g d

/-- A row's product with column `k` of the projection (nothing past the last column). -/
def col (xn : Fin 2048 → EReal) (w : Fin 2048 → Fin 4096 → EReal) (k : ℕ) : EReal :=
  if h : k < 4096 then ∑ x, xn x * w x ⟨k, h⟩ else 0

/-- Column `k` of the heads, as the kernel rotates it: the products of the same head 16 columns after and before it under their own tables. -/
def roll (y : ℕ → EReal) (c s1 s2 : Fin 128 → EReal) (k : ℕ) : EReal :=
  y k * c ⟨k % 128, Nat.mod_lt _ (by decide)⟩
    + y (k / 128 * 128 + (k % 128 + 16) % 128) * s1 ⟨k % 128, Nat.mod_lt _ (by decide)⟩
    + y (k / 128 * 128 + (k % 128 + 112) % 128) * s2 ⟨k % 128, Nat.mod_lt _ (by decide)⟩

/-- Column `k` of the attention's operands: the heads' rotated, the values' as they are. -/
def qkv (y : ℕ → EReal) (c s1 s2 : Fin 128 → EReal) (k : ℕ) : EReal := if k < 2560 then roll y c s1 s2 k else y k

/-- Column `k` of the channel transform's half `q`: the columns of its group against the half's table. -/
def four (y : ℕ → EReal) (dft : Fin 128 → Fin 256 → EReal) (q : Fin 2) (k : ℕ) : EReal :=
  ∑ x : Fin 128, y (3072 + k / 128 * 128 + x.val) * dft x ⟨128 * q.val + k % 128, by omega⟩

/-! ## The payloads, entry by entry -/

/-- A head of a chunk of products, rotated. -/
def head (o : ℕ) (h : S512x512.Slices ![0, o] S512x128) (v : FVec Ideal S512x512 .f32) (c s1 s2 : Vec Ideal S512x128 .f32) : FVec Ideal S1x512x128 .bf16 :=
  shapeCast S1x512x128 (truncf .bf16
    (addf (addf (mulf (extractStridedSlice S512x128 ![0, o] v h) (k0_pay2 c))
        (mulf (dynamicRotate 1 112#32 none (extractStridedSlice S512x128 ![0, o] v h) rotates_S512x128_d1) (k0_pay3 s1)))
      (mulf (dynamicRotate 1 16#32 none (extractStridedSlice S512x128 ![0, o] v h) rotates_S512x128_d1) (k0_pay4 s2)))
    bitsLt_bf16_f32) shapeCasts_S512x128_S1x512x128

theorem head_apply (o : ℕ) (h : S512x512.Slices ![0, o] S512x128) (ho : o + 128 ≤ 512) (v : FVec Ideal S512x512 .f32) (c s1 s2 : Vec Ideal S512x128 .f32)
    (r : Fin 512) (j : Fin 128) :
    head o h v c s1 s2 (ix3 0 r j)
      = v (ix2 r ⟨o + j.val, by omega⟩) * c (ix2 r j) + v (ix2 r ⟨o + (j.val + 16) % 128, by omega⟩) * s1 (ix2 r j)
        + v (ix2 r ⟨o + (j.val + 112) % 128, by omega⟩) * s2 (ix2 r j) := by
  unfold head k0_pay2 k0_pay3 k0_pay4
  simp only [shapeCast_self]
  pointwise
  simp only [show j.val + 128 - 112 = j.val + 16 by omega, show j.val + 128 - 16 = j.val + 112 by omega]

/-- A group of a chunk of products, through the channel transform's half at column `q`. -/
def group (o q : ℕ) (h : S512x512.Slices ![0, o] S512x128) (h' : S512x256.Slices ![0, q] S512x128) (v : FVec Ideal S512x512 .f32) (dft : FVec Ideal S128x256 .bf16) :
    FVec Ideal S1x1x512x128 .bf16 :=
  shapeCast S1x1x512x128 (shapeCast S1x512x128 (truncf .bf16 (extractStridedSlice S512x128 ![0, q]
    (matmul dot_S512x128_S128x256_S512x256_1_0_0_1_n_n none (extractStridedSlice S512x128 ![0, o] (truncf .bf16 v bitsLt_bf16_f32 : FVec Ideal S512x512 .bf16) h) dft
      (constant S512x256 .f32 0x00000000#32)) h') bitsLt_bf16_f32) shapeCasts_S512x128_S1x512x128) shapeCasts_S1x512x128_S1x1x512x128

theorem group_apply (o q : ℕ) (h : S512x512.Slices ![0, o] S512x128) (h' : S512x256.Slices ![0, q] S512x128) (ho : o + 128 ≤ 512) (hq : q + 128 ≤ 256)
    (v : FVec Ideal S512x512 .f32) (dft : FVec Ideal S128x256 .bf16) (r : Fin 512) (j : Fin 128) :
    group o q h h' v dft (ix4 0 0 r j) = ∑ x : Fin 128, v (ix2 r ⟨o + x.val, by omega⟩) * dft (ix2 x ⟨q + j.val, by omega⟩) := by
  unfold group
  pointwise

theorem xn_apply (x0 : Vec Ideal S1x512x2048 .f32) (x1 : Vec Ideal S1x2048 .f32) (r : Fin 512) (d : Fin 2048) :
    k0_pay1 x0 x1 (ix3 0 r d) = norm (fun k => x0 (ix3 0 r k)) (fun k => x1 (ix2 0 k)) d := by
  unfold k0_pay1
  pointwise
  rfl

theorem ld_chunk (w : Vec Ideal S1x2048x4096 .bf16) (p : ℕ) (h : ∀ x, (![0, 0, p] : Fin 3 → ℕ) x + S1x2048x512.size x ≤ S1x2048x4096.size x)
    (x : Fin 2048) (f : Fin 512) (hp : p + f.val < 4096) :
    View.ld w (Rect.unit (s := S1x2048x4096) ![0, 0, p] S1x2048x512.size h) (ix3 0 x f) = w (ix3 0 x ⟨p + f.val, hp⟩) :=
  View.ld_unit_apply_of w _ _ h (ix3 0 x f) (ix3 0 x ⟨p + f.val, hp⟩) fun a => match a with
    | ⟨0, _⟩ => rfl
    | ⟨1, _⟩ => (Nat.zero_add _).symm
    | ⟨2, _⟩ => rfl

theorem chunk_apply (xn : Vec Ideal S1x512x2048 .bf16) (w : Vec Ideal S1x2048x4096 .bf16) (p : ℕ)
    (h : ∀ x, (![0, 0, p] : Fin 3 → ℕ) x + S1x2048x512.size x ≤ S1x2048x4096.size x) (hp : p + 512 ≤ 4096) (r f : Fin 512) :
    k0_pay5 xn (View.ld w (Rect.unit (s := S1x2048x4096) ![0, 0, p] S1x2048x512.size h)) (ix2 r f)
      = col (fun x => xn (ix3 0 r x)) (fun x k => w (ix3 0 x k)) (p + f.val) := by
  unfold k0_pay5 col
  rw [dif_pos (by omega)]
  simp only [shapeCast_self]
  pointwise

/-! ## What a point leaves in its blocks -/

section
variable (x0 : Vec Ideal S1x512x2048 .f32) (x1 : Vec Ideal S1x2048 .f32) (x2 : Vec Ideal S1x2048x4096 .bf16)
  (x3 x4 x5 : Vec Ideal S512x128 .f32) (x6 : Vec Ideal S128x256 .bf16)

/-- Row `r` of the block, normed, against the projection's column `k`. -/
def prod (r : Fin 512) (k : ℕ) : EReal :=
  col (norm (fun d => x0 (ix3 0 r d)) (fun d => x1 (ix2 0 d))) (fun x k => x2 (ix3 0 x k)) k

theorem products_apply (p : ℕ) (h : ∀ x, (![0, 0, p] : Fin 3 → ℕ) x + S1x2048x512.size x ≤ S1x2048x4096.size x) (hp : p + 512 ≤ 4096) (r f : Fin 512) :
    k0_pay5 (k0_pay1 x0 x1) (View.ld x2 (Rect.unit (s := S1x2048x4096) ![0, 0, p] S1x2048x512.size h)) (ix2 r f) = prod x0 x1 x2 r (p + f.val) := by
  rw [chunk_apply _ _ p h hp]
  unfold prod
  simp only [xn_apply]

def qkvBlock : Vec Ideal S1x512x3072 .bf16 := fun y =>
  qkv (prod x0 x1 x2 (y 1)) (fun j => x3 (ix2 (y 1) j)) (fun j => x4 (ix2 (y 1) j)) (fun j => x5 (ix2 (y 1) j)) (y 2).val

theorem head_piece (p o n : ℕ) (h : ∀ x, (![0, 0, p] : Fin 3 → ℕ) x + S1x2048x512.size x ≤ S1x2048x4096.size x) (hs : S512x512.Slices ![0, o] S512x128)
    (hp : p + 512 ≤ 2560) (ho : o + 128 ≤ 512) (hn : n = p + o) (hd : n % 128 = 0)
    (y : S1x512x3072.Idx) (x : S1x512x128.Idx) (hx : ∀ a, ((y a : ℕ)) = (![0, 0, n] : Fin 3 → ℕ) a + x a) :
    head o hs (k0_pay5 (k0_pay1 x0 x1) (View.ld x2 (Rect.unit (s := S1x2048x4096) ![0, 0, p] S1x2048x512.size h))) x3 x4 x5 x
      = qkvBlock x0 x1 x2 x3 x4 x5 y := by
  obtain ⟨a, r, j, rfl⟩ : ∃ (a : Fin 1) (r : Fin 512) (j : Fin 128), x = ix3 a r j := ⟨x 0, x 1, x 2, by funext a; fin_cases a <;> rfl⟩
  obtain rfl : a = 0 := Subsingleton.elim _ _
  have h1 : (y 1 : Fin 512) = r := Fin.ext ((hx 1).trans (Nat.zero_add _))
  have h2 : (y 2).val = n + j.val := hx 2
  unfold qkvBlock qkv
  rw [head_apply o hs ho, h1, h2, if_pos (by omega), products_apply _ _ _ _ _ (by omega), products_apply _ _ _ _ _ (by omega), products_apply _ _ _ _ _ (by omega)]
  unfold roll
  have hm : (n + j.val) % 128 = j.val := by omega
  have hq : (n + j.val) / 128 * 128 = n := by omega
  simp only [hm, hq]
  subst hn
  simp only [Nat.add_assoc, Fin.eta]

theorem value_piece (h : ∀ x, (![0, 0, 2560] : Fin 3 → ℕ) x + S1x2048x512.size x ≤ S1x2048x4096.size x)
    (y : S1x512x3072.Idx) (x : S1x512x512.Idx) (hx : ∀ a, ((y a : ℕ)) = (![0, 0, 2560] : Fin 3 → ℕ) a + x a) :
    k0_pay43 (k0_pay1 x0 x1) (View.ld x2 (Rect.unit (s := S1x2048x4096) ![0, 0, 2560] S1x2048x512.size h)) x = qkvBlock x0 x1 x2 x3 x4 x5 y := by
  obtain ⟨a, r, j, rfl⟩ : ∃ (a : Fin 1) (r : Fin 512) (j : Fin 512), x = ix3 a r j := ⟨x 0, x 1, x 2, by funext a; fin_cases a <;> rfl⟩
  obtain rfl : a = 0 := Subsingleton.elim _ _
  have h1 : (y 1 : Fin 512) = r := Fin.ext ((hx 1).trans (Nat.zero_add _))
  have h2 : (y 2).val = 2560 + j.val := hx 2
  unfold qkvBlock qkv
  rw [h1, h2, if_neg (by omega), ← products_apply x0 x1 x2 2560 h (by omega)]
  show shapeCast S1x512x512 (k0_pay5 (k0_pay1 x0 x1) _ : FVec Ideal S512x512 .f32) shapeCasts_S512x512_S1x512x512 (ix3 0 r j) = _
  generalize k0_pay5 (k0_pay1 x0 x1) _ = v
  pointwise

def fourBlock : Vec Ideal S1x2x512x1024 .bf16 := fun y =>
  four (prod x0 x1 x2 (y 2)) (fun x j => x6 (ix2 x j)) (y 1) (y 3).val

theorem group_piece (p o q n : ℕ) (s : Fin 2) (h : ∀ x, (![0, 0, p] : Fin 3 → ℕ) x + S1x2048x512.size x ≤ S1x2048x4096.size x)
    (hs : S512x512.Slices ![0, o] S512x128) (hs' : S512x256.Slices ![0, q] S512x128)
    (hp : p + 512 ≤ 4096) (ho : o + 128 ≤ 512) (hq : q = 128 * s.val) (hn : 3072 + n = p + o) (hd : n % 128 = 0)
    (y : S1x2x512x1024.Idx) (x : S1x1x512x128.Idx) (hx : ∀ a, ((y a : ℕ)) = (![0, s.val, 0, n] : Fin 4 → ℕ) a + x a) :
    group o q hs hs' (k0_pay5 (k0_pay1 x0 x1) (View.ld x2 (Rect.unit (s := S1x2048x4096) ![0, 0, p] S1x2048x512.size h))) x6 x
      = fourBlock x0 x1 x2 x6 y := by
  obtain ⟨a, a', r, j, rfl⟩ : ∃ (a : Fin 1) (a' : Fin 1) (r : Fin 512) (j : Fin 128), x = ix4 a a' r j :=
    ⟨x 0, x 1, x 2, x 3, by funext a; fin_cases a <;> rfl⟩
  obtain rfl : a = 0 := Subsingleton.elim _ _
  obtain rfl : a' = 0 := Subsingleton.elim _ _
  have h1 : (y 1 : Fin 2) = s := Fin.ext (hx 1)
  have h2 : (y 2 : Fin 512) = r := Fin.ext ((hx 2).trans (Nat.zero_add _))
  have h3 : (y 3).val = n + j.val := hx 3
  unfold fourBlock four
  rw [group_apply o q hs hs' ho (by omega), h1, h2, h3]
  refine Finset.sum_congr rfl fun x _ => ?_
  rw [products_apply _ _ _ _ _ hp]
  have hm : (n + j.val) % 128 = j.val := by omega
  have hk : (n + j.val) / 128 * 128 = n := by omega
  simp only [hm, hk, hq, hn, Nat.add_assoc]

end

section
variable (c : Dev nD) (t : Fin cfg0.N) (x0 : Vec Ideal S1x512x2048 .f32) (x1 : Vec Ideal S1x2048 .f32) (x2 : Vec Ideal S1x2048x4096 .bf16)
  (x3 x4 x5 : Vec Ideal S512x128 .f32) (x6 : Vec Ideal S128x256 .bf16)

theorem out7_apply (y : S1x512x3072.Idx) :
    out0_A_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) x0 x1 x2 x3 x4 x5 x6 y
      = qkvBlock x0 x1 x2 x3 x4 x5 y := by
  unfold out0_A_7
  rw [View.read_writes_eq_canon _ _ _ (cover0_A_7 c (grid0.coords t) _ _ _ _ _ _ _ _ _ _ _ _ _ _ _ _ _ _ _ _ x0 x1 x2 x3 x4 x5 x6)]
  refine View.canon_eq_of_allAt _ y _ (cover0_A_7 c (grid0.coords t) _ _ _ _ _ _ _ _ _ _ _ _ _ _ _ _ _ _ _ _ x0 x1 x2 x3 x4 x5 x6 y) ?_
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S1x512x2048) hz3, View.ld_unit_zero (S := S1x2048) hz2,
    View.ld_unit_zero (S := S512x128) hz2, View.ld_unit_zero (S := S128x256) hz2]
  rw [View.readCov_cons_unit_lit' (S := S1x512x2048) _ _ _ _ _ (by decide) (by decide)]
  refine View.allAt_cons_unit _ _ _ _ _ (fun x hx => value_piece x0 x1 x2 x3 x4 x5 _ y x hx) ?_
  repeat' refine View.allAt_cons_unit _ _ _ _ _ (fun x hx => head_piece x0 x1 x2 x3 x4 x5 _ _ _ _ (by decide) (by decide) (by decide) (by decide) (by decide) y x hx) ?_
  exact View.allAt_nil _ _

theorem out8_apply (y : S1x2x512x1024.Idx) :
    out0_A_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) x0 x1 x2 x3 x4 x5 x6 y
      = fourBlock x0 x1 x2 x6 y := by
  unfold out0_A_8
  rw [View.read_writes_eq_canon _ _ _ (cover0_A_8 c (grid0.coords t) _ _ _ _ _ _ _ _ _ _ _ _ _ _ _ _ _ _ _ _ x0 x1 x2 x3 x4 x5 x6)]
  refine View.canon_eq_of_allAt _ y _ (cover0_A_8 c (grid0.coords t) _ _ _ _ _ _ _ _ _ _ _ _ _ _ _ _ _ _ _ _ x0 x1 x2 x3 x4 x5 x6 y) ?_
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S1x512x2048) hz3, View.ld_unit_zero (S := S1x2048) hz2,
    View.ld_unit_zero (S := S512x128) hz2, View.ld_unit_zero (S := S128x256) hz2]
  rw [View.readCov_cons_unit_lit' (S := S1x512x2048) _ _ _ _ _ (by decide) (by decide)]
  repeat' first
    | refine View.allAt_cons_unit _ _ _ _ _ (fun x hx => group_piece x0 x1 x2 x6 _ _ _ _ 1 _ (by decide) _ (by decide) (by decide) (by decide) (by decide) (by decide) y x hx) ?_
    | refine View.allAt_cons_unit _ _ _ _ _ (fun x hx => group_piece x0 x1 x2 x6 _ _ _ _ 0 _ (by decide) _ (by decide) (by decide) (by decide) (by decide) (by decide) y x hx) ?_
  exact View.allAt_nil _ _

theorem out9_apply (r : Fin 512) (d : Fin 2048) :
    out0_A_9 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) x0 x1 x2 x3 x4 x5 x6 (ix3 0 r d)
      = norm (fun k => x0 (ix3 0 r k)) (fun k => x1 (ix2 0 k)) d := by
  unfold out0_A_9
  rw [View.read_writes_eq_canon _ _ _ (cover0_A_9 c (grid0.coords t) _ _ _ _ _ _ _ _ _ _ _ _ _ _ _ _ _ _ _ _ x0 x1 x2 x3 x4 x5 x6)]
  unfold kernelRun0_A
  dsimp only
  sl_unfold_words
  rw [View.canon_cons_unit_zero (S := S1x512x2048) hz3]
  simp only [View.readAt_eq_ld, (hs0_0 t).read_unread, (hs0_1 t).read_unread, View.ld_unit_zero (S := S1x512x2048) hz3, View.ld_unit_zero (S := S1x2048) hz2]
  exact xn_apply x0 x1 r d

end

end Cert.Kernel5Ideal.Proj

end
-- ==== Proof.ProjArray.lean ====
/-
  The mixers' input projection, from blocks to arrays: the rotation's tables as the call's wrapper lays them out, the blocks a point reads,
  and the three arrays the call leaves, on the rows before the appended ones.
-/
module

public import proofs.«01_k».proof.Proof.ProjValue

@[expose] public section

noncomputable section

namespace Cert.Kernel5Ideal.Proj

open Cert.Kernel5Ideal Cert.Kernel5Ideal.Gen Idealize.ShloMosaic Idealize.ShloMosaic.TcCoe Idealize.SL.Sem

/-! ## The results -/

/-- Column `k` of the heads, rotated by the row's angles: 32 of a head's 128 columns, in pairs 16 apart. -/
def rope (y : ℕ → EReal) (cos sin : Fin 16 → EReal) (k : ℕ) : EReal :=
  if h : k % 128 < 16 then y k * cos ⟨k % 128, h⟩ - y (k + 16) * sin ⟨k % 128, h⟩
  else if h' : k % 128 < 32 then y k * cos ⟨k % 128 - 16, by omega⟩ + y (k - 16) * sin ⟨k % 128 - 16, by omega⟩
  else y k

/-- The kernel's three tables rotate the same way. -/
theorem roll_eq_rope (y : ℕ → EReal) (cos sin : Fin 16 → EReal) (tc ta tb : Fin 128 → EReal)
    (hc : ∀ j : Fin 128, tc j = if h : j.val < 16 then cos ⟨j.val, h⟩ else if h' : j.val < 32 then cos ⟨j.val - 16, by omega⟩ else 1)
    (ha : ∀ j : Fin 128, ta j = if h : j.val < 16 then - sin ⟨j.val, h⟩ else 0)
    (hb : ∀ j : Fin 128, tb j = if h : j.val < 16 then 0 else if h' : j.val < 32 then sin ⟨j.val - 16, by omega⟩ else 0) (k : ℕ) :
    roll y tc ta tb k = rope y cos sin k := by
  unfold roll rope
  rw [hc, ha, hb]
  by_cases h : k % 128 < 16
  · simp only [dif_pos h]
    rw [show k / 128 * 128 + (k % 128 + 16) % 128 = k + 16 by omega, mul_zero, add_zero, mul_neg, ← sub_eq_add_neg]
  · by_cases h' : k % 128 < 32
    · simp only [dif_neg h, dif_pos h']
      rw [show k / 128 * 128 + (k % 128 + 112) % 128 = k - 16 by omega, mul_zero, add_zero]
    · simp only [dif_neg h, dif_neg h']
      rw [mul_zero, mul_zero, mul_one, add_zero, add_zero]

section
variable (a0 : Vec Ideal S2x16400x2048 .f32) (a1 : Vec Ideal S1x2048 .f32) (a2 : Vec Ideal S2x2048x4096 .bf16) (a3 a4 : Vec Ideal S16400x16 .f32)
  (a5 : Vec Ideal S128x256 .bf16)

/-- Entry `d` of the normed row. -/
def normed (b : Fin 2) (r : Fin 16400) (d : Fin 2048) : EReal := norm (fun k => a0 (ix3 b r k)) (fun k => a1 (ix2 0 k)) d

/-- Column `k` of the normed row's projection. -/
def projected (b : Fin 2) (r : Fin 16400) (k : ℕ) : EReal := col (normed a0 a1 b r) (fun x k => a2 (ix3 1 x k)) k

/-- The attention's operands at every row: queries and keys rotated, values as they are. -/
def Qkv : Vec Ideal S2x16400x3072 .bf16 := fun i =>
  if (i 2).val < 2560 then rope (projected a0 a1 a2 (i 0) (i 1)) (fun j => a3 (ix2 (i 1) j)) (fun j => a4 (ix2 (i 1) j)) (i 2).val
  else projected a0 a1 a2 (i 0) (i 1) (i 2).val

/-- The channel transform's two halves at every row. -/
def Four : Vec Ideal S2x2x16400x1024 .bf16 := fun i => four (projected a0 a1 a2 (i 0) (i 2)) (fun x j => a5 (ix2 x j)) (i 1) (i 3).val

/-- The normed rows. -/
def Norm : Vec Ideal S2x16400x2048 .bf16 := fun i => normed a0 a1 (i 0) (i 1) (i 2)

end

/-! ## The tables -/

variable (m : (ℓ : Loc nD τ sig) → Buf (Elt Ideal) ℓ) (c : Dev nD)

abbrev H : Vec Ideal S2x16400x2048 .f32 := m ((c : Thread nD τ).loc main_arg0)
abbrev Gn : Vec Ideal S1x2048 .f32 := m ((c : Thread nD τ).loc main_arg1)
abbrev W : Vec Ideal S2x2048x4096 .bf16 := m ((c : Thread nD τ).loc main_arg2)
abbrev Cos : Vec Ideal S16400x16 .f32 := m ((c : Thread nD τ).loc main_arg3)
abbrev Sin : Vec Ideal S16400x16 .f32 := m ((c : Thread nD τ).loc main_arg4)
abbrev Dft : Vec Ideal S128x256 .bf16 := m ((c : Thread nD τ).loc main_arg5)

/-- A table's lanes: two pieces of 16 and one of 96. -/
def lanes (a b : Vec Ideal S16400x16 .f32) (z : Vec Ideal S16400x96 .f32) : Vec Ideal S16400x128 .f32 :=
  concatenate S16400x128 1 [⟨S16400x16, a⟩, ⟨S16400x16, b⟩, ⟨S16400x96, z⟩] concatenates_S16400x16_S16400x16_S16400x96_S16400x128_d1

theorem lanes_apply (a b : Vec Ideal S16400x16 .f32) (z : Vec Ideal S16400x96 .f32) (r : Fin 16400) (j : Fin 128) :
    lanes a b z (ix2 r j) = if h : j.val < 16 then a (ix2 r ⟨j.val, h⟩) else if h' : j.val < 32 then b (ix2 r ⟨j.val - 16, by omega⟩)
      else z (ix2 r ⟨j.val - 32, by omega⟩) := by
  unfold lanes
  pointwise
  simp only [show j.val - 16 - 16 = j.val - 32 by omega]
  by_cases h : j.val < 16
  · simp only [dif_pos h]
  · by_cases h' : j.val < 32
    · simp only [dif_neg h, dif_pos h', dif_pos (show j.val - 16 < 16 by omega)]
    · simp only [dif_neg h, dif_neg h', dif_neg (show ¬ j.val - 16 < 16 by omega)]

/-- The wrapper's table of the columns' own factors. -/
theorem V_own : (V m c main_v3 : Vec Ideal S16400x128 .f32)
    = lanes (Cos m c) (Cos m c) (broadcastInDim S16400x96 ![] bcast_S_S16400x96 (constant (F := Ideal) S_ .f32 0x3F800000#32)) := by
  show StableHlo.after hostOps0 _ (Proc.devRef .tc main_v3) = _
  after_results_simp <;> (try dsimp only [Matrix.cons_val]) <;> (try after_results_simp) <;> rfl

/-- Its table for the columns 16 after. -/
theorem V_after : (V m c main_v5 : Vec Ideal S16400x128 .f32)
    = lanes (Host.negf (F := Ideal) (φ := .f32) (Sin m c)) (broadcastInDim S16400x16 ![] bcast_S_S16400x16 (constant (F := Ideal) S_ .f32 0x00000000#32))
        (broadcastInDim S16400x96 ![] bcast_S_S16400x96 (constant (F := Ideal) S_ .f32 0x00000000#32)) := by
  show StableHlo.after hostOps0 _ (Proc.devRef .tc main_v5) = _
  after_results_simp <;> (try dsimp only [Matrix.cons_val]) <;> (try after_results_simp) <;> rfl

/-- Its table for the columns 16 before. -/
theorem V_before : (V m c main_v6 : Vec Ideal S16400x128 .f32)
    = lanes (broadcastInDim S16400x16 ![] bcast_S_S16400x16 (constant (F := Ideal) S_ .f32 0x00000000#32)) (Sin m c)
        (broadcastInDim S16400x96 ![] bcast_S_S16400x96 (constant (F := Ideal) S_ .f32 0x00000000#32)) := by
  show StableHlo.after hostOps0 _ (Proc.devRef .tc main_v6) = _
  after_results_simp <;> (try dsimp only [Matrix.cons_val]) <;> (try after_results_simp) <;> rfl

theorem own_apply (r : Fin 16400) (j : Fin 128) : (V m c main_v3 : Vec Ideal S16400x128 .f32) (ix2 r j)
    = if h : j.val < 16 then Cos m c (ix2 r ⟨j.val, h⟩) else if h' : j.val < 32 then Cos m c (ix2 r ⟨j.val - 16, by omega⟩) else 1 := by
  rw [V_own, lanes_apply]
  pointwise

theorem after_apply (r : Fin 16400) (j : Fin 128) : (V m c main_v5 : Vec Ideal S16400x128 .f32) (ix2 r j)
    = if h : j.val < 16 then - Sin m c (ix2 r ⟨j.val, h⟩) else 0 := by
  rw [V_after, lanes_apply]
  pointwise
  simp only [dite_eq_ite, ite_self]

theorem before_apply (r : Fin 16400) (j : Fin 128) : (V m c main_v6 : Vec Ideal S16400x128 .f32) (ix2 r j)
    = if h : j.val < 16 then 0 else if h' : j.val < 32 then Sin m c (ix2 r ⟨j.val - 16, by omega⟩) else 0 := by
  rw [V_before, lanes_apply]
  pointwise

/-! ## The blocks a point reads -/

/-- The row windows' block is the point's, the projection's the second layer's. -/
theorem idx_facts : ∀ t : Fin cfg0.N,
    (win0_0.index t (0 : Fin 3) = t.val / 32 ∧ win0_0.index t (1 : Fin 3) = t.val % 32 ∧ win0_0.index t (2 : Fin 3) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = 0)
    ∧ (win0_3.index t (0 : Fin 2) = t.val % 32 ∧ win0_3.index t (1 : Fin 2) = 0)
    ∧ (win0_4.index t (0 : Fin 2) = t.val % 32 ∧ win0_4.index t (1 : Fin 2) = 0)
    ∧ (win0_5.index t (0 : Fin 2) = t.val % 32 ∧ win0_5.index t (1 : Fin 2) = 0)
    ∧ (win0_6.index t (0 : Fin 2) = 0 ∧ win0_6.index t (1 : Fin 2) = 0)
    ∧ (win0_7.index t (0 : Fin 3) = t.val / 32 ∧ win0_7.index t (1 : Fin 3) = t.val % 32 ∧ win0_7.index t (2 : Fin 3) = 0)
    ∧ (win0_8.index t (0 : Fin 4) = t.val / 32 ∧ win0_8.index t (1 : Fin 4) = 0 ∧ win0_8.index t (2 : Fin 4) = t.val % 32 ∧ win0_8.index t (3 : Fin 4) = 0)
    ∧ (win0_9.index t (0 : Fin 3) = t.val / 32 ∧ win0_9.index t (1 : Fin 3) = t.val % 32 ∧ win0_9.index t (2 : Fin 3) = 0) :=
  (by decide +kernel : ∀ t : Fin grid0.N, _)

theorem eq_of_vals2 {p q : ℕ} (i : (⟨2, ![p, q]⟩ : Shape).Idx) (a : Fin p) (b : Fin q) (ha : (i 0).val = a.val) (hb : (i 1).val = b.val) :
    i = ix2 a b :=
  funext fun x => Fin.ext (match x with
    | ⟨0, _⟩ => ha
    | ⟨1, _⟩ => hb)

theorem eq_of_vals3 {p q s : ℕ} (i : (⟨3, ![p, q, s]⟩ : Shape).Idx) (a : Fin p) (b : Fin q) (e : Fin s) (ha : (i 0).val = a.val)
    (hb : (i 1).val = b.val) (he : (i 2).val = e.val) : i = ix3 a b e :=
  funext fun x => Fin.ext (match x with
    | ⟨0, _⟩ => ha
    | ⟨1, _⟩ => hb
    | ⟨2, _⟩ => he)

theorem eq_of_vals4 {p q s u : ℕ} (i : (⟨4, ![p, q, s, u]⟩ : Shape).Idx) (a : Fin p) (b : Fin q) (e : Fin s) (f : Fin u) (ha : (i 0).val = a.val)
    (hb : (i 1).val = b.val) (he : (i 2).val = e.val) (hf : (i 3).val = f.val) : i = ix4 a b e f :=
  funext fun x => Fin.ext (match x with
    | ⟨0, _⟩ => ha
    | ⟨1, _⟩ => hb
    | ⟨2, _⟩ => he
    | ⟨3, _⟩ => hf)

theorem X0_apply (t : Fin cfg0.N) (r : Fin 512) (d : Fin 2048) (hb : t.val / 32 < 2) (hr : 512 * (t.val % 32) + r.val < 16400) :
    (X0_0 m c t : Vec Ideal S1x512x2048 .f32) (ix3 0 r d) = H m c (ix3 ⟨t.val / 32, hb⟩ ⟨512 * (t.val % 32) + r.val, hr⟩ d) := by
  obtain ⟨⟨e0, e1, e2⟩, -⟩ := idx_facts t
  show (cfg0.win 0).fill (cfg0.grid.coords t) dflt0_0 (iblk m c 0 t) (ix3 0 r d) = _
  unfold Pipeline.Window.fill
  rw [dif_pos (moved0_0 t _)]
  unfold iblk
  rw [View.read_apply]
  refine (congrFun (V_main_arg0 m c) _).trans (congrArg (m ((c : Thread nD τ).loc main_arg0)) (eq_of_vals3 _ _ _ _ ?_ ?_ ?_))
  · show win0_0.index t (0 : Fin 3) * 1 + 1 * 0 = t.val / 32; omega
  · show win0_0.index t (1 : Fin 3) * 512 + 1 * r.val = 512 * (t.val % 32) + r.val; omega
  · show win0_0.index t (2 : Fin 3) * 2048 + 1 * d.val = d.val; omega

theorem blk1_apply (t : Fin cfg0.N) (d : Fin 2048) : (iblk m c 1 t : Vec Ideal S1x2048 .f32) (ix2 0 d) = Gn m c (ix2 0 d) := by
  obtain ⟨-, ⟨e0, e1⟩, -⟩ := idx_facts t
  unfold iblk
  rw [View.read_apply]
  refine (congrFun (V_main_arg1 m c) _).trans (congrArg (m ((c : Thread nD τ).loc main_arg1)) (eq_of_vals2 _ _ _ ?_ ?_))
  · show win0_1.index t (0 : Fin 2) * 1 + 1 * 0 = 0; omega
  · show win0_1.index t (1 : Fin 2) * 2048 + 1 * d.val = d.val; omega

theorem blk2_apply (t : Fin cfg0.N) (x : Fin 2048) (k : Fin 4096) :
    (iblk m c 2 t : Vec Ideal S1x2048x4096 .bf16) (ix3 0 x k) = W m c (ix3 1 x k) := by
  obtain ⟨-, -, ⟨e0, e1, e2⟩, -⟩ := idx_facts t
  unfold iblk
  rw [View.read_apply]
  refine (congrFun (V_main_arg2 m c) _).trans (congrArg (m ((c : Thread nD τ).loc main_arg2)) (eq_of_vals3 _ _ _ _ ?_ ?_ ?_))
  · show win0_2.index t (0 : Fin 3) * 1 + 1 * 0 = 1; omega
  · show win0_2.index t (1 : Fin 3) * 2048 + 1 * x.val = x.val; omega
  · show win0_2.index t (2 : Fin 3) * 4096 + 1 * k.val = k.val; omega

theorem X3_apply (t : Fin cfg0.N) (r : Fin 512) (j : Fin 128) (hr : 512 * (t.val % 32) + r.val < 16400) :
    (X0_3 m c t : Vec Ideal S512x128 .f32) (ix2 r j) = (V m c main_v3 : Vec Ideal S16400x128 .f32) (ix2 ⟨512 * (t.val % 32) + r.val, hr⟩ j) := by
  obtain ⟨-, -, -, ⟨e0, e1⟩, -⟩ := idx_facts t
  show (cfg0.win 3).fill (cfg0.grid.coords t) dflt0_3 (iblk m c 3 t) (ix2 r j) = _
  unfold Pipeline.Window.fill
  rw [dif_pos (moved0_3 t _)]
  unfold iblk
  rw [View.read_apply]
  refine congrArg (V m c main_v3) (eq_of_vals2 _ _ _ ?_ ?_)
  · show win0_3.index t (0 : Fin 2) * 512 + 1 * r.val = 512 * (t.val % 32) + r.val; omega
  · show win0_3.index t (1 : Fin 2) * 128 + 1 * j.val = j.val; omega

theorem X4_apply (t : Fin cfg0.N) (r : Fin 512) (j : Fin 128) (hr : 512 * (t.val % 32) + r.val < 16400) :
    (X0_4 m c t : Vec Ideal S512x128 .f32) (ix2 r j) = (V m c main_v5 : Vec Ideal S16400x128 .f32) (ix2 ⟨512 * (t.val % 32) + r.val, hr⟩ j) := by
  obtain ⟨-, -, -, -, ⟨e0, e1⟩, -⟩ := idx_facts t
  show (cfg0.win 4).fill (cfg0.grid.coords t) dflt0_4 (iblk m c 4 t) (ix2 r j) = _
  unfold Pipeline.Window.fill
  rw [dif_pos (moved0_4 t _)]
  unfold iblk
  rw [View.read_apply]
  refine congrArg (V m c main_v5) (eq_of_vals2 _ _ _ ?_ ?_)
  · show win0_4.index t (0 : Fin 2) * 512 + 1 * r.val = 512 * (t.val % 32) + r.val; omega
  · show win0_4.index t (1 : Fin 2) * 128 + 1 * j.val = j.val; omega

theorem X5_apply (t : Fin cfg0.N) (r : Fin 512) (j : Fin 128) (hr : 512 * (t.val % 32) + r.val < 16400) :
    (X0_5 m c t : Vec Ideal S512x128 .f32) (ix2 r j) = (V m c main_v6 : Vec Ideal S16400x128 .f32) (ix2 ⟨512 * (t.val % 32) + r.val, hr⟩ j) := by
  obtain ⟨-, -, -, -, -, ⟨e0, e1⟩, -⟩ := idx_facts t
  show (cfg0.win 5).fill (cfg0.grid.coords t) dflt0_5 (iblk m c 5 t) (ix2 r j) = _
  unfold Pipeline.Window.fill
  rw [dif_pos (moved0_5 t _)]
  unfold iblk
  rw [View.read_apply]
  refine congrArg (V m c main_v6) (eq_of_vals2 _ _ _ ?_ ?_)
  · show win0_5.index t (0 : Fin 2) * 512 + 1 * r.val = 512 * (t.val % 32) + r.val; omega
  · show win0_5.index t (1 : Fin 2) * 128 + 1 * j.val = j.val; omega

theorem blk6_apply (t : Fin cfg0.N) (x : Fin 128) (j : Fin 256) : (iblk m c 6 t : Vec Ideal S128x256 .bf16) (ix2 x j) = Dft m c (ix2 x j) := by
  obtain ⟨-, -, -, -, -, -, ⟨e0, e1⟩, -⟩ := idx_facts t
  unfold iblk
  rw [View.read_apply]
  refine (congrFun (V_main_arg5 m c) _).trans (congrArg (m ((c : Thread nD τ).loc main_arg5)) (eq_of_vals2 _ _ _ ?_ ?_))
  · show win0_6.index t (0 : Fin 2) * 128 + 1 * x.val = x.val; omega
  · show win0_6.index t (1 : Fin 2) * 256 + 1 * j.val = j.val; omega

/-! ## What a point leaves, by the arrays -/

theorem prod_apply (t : Fin cfg0.N) (r : Fin 512) (k : ℕ) (hb : t.val / 32 < 2) (hr : 512 * (t.val % 32) + r.val < 16400) :
    prod (X0_0 m c t) (iblk m c 1 t) (iblk m c 2 t) r k
      = projected (H m c) (Gn m c) (W m c) ⟨t.val / 32, hb⟩ ⟨512 * (t.val % 32) + r.val, hr⟩ k := by
  unfold prod projected normed
  simp only [X0_apply m c t r _ hb hr, blk1_apply m c t, blk2_apply m c t]

theorem outs_eq (t : Fin cfg0.N) :
    (outsAt0 m c t).1 = qkvBlock (X0_0 m c t) (iblk m c 1 t) (iblk m c 2 t) (X0_3 m c t) (X0_4 m c t) (X0_5 m c t)
    ∧ (outsAt0 m c t).2.1 = fourBlock (X0_0 m c t) (iblk m c 1 t) (iblk m c 2 t) (iblk m c 6 t)
    ∧ ∀ (r : Fin 512) (d : Fin 2048), (outsAt0 m c t).2.2 (ix3 0 r d)
      = norm (fun k => (X0_0 m c t : Vec Ideal S1x512x2048 .f32) (ix3 0 r k)) (fun k => (iblk m c 1 t : Vec Ideal S1x2048 .f32) (ix2 0 k)) d := by
  unfold outsAt0
  dsimp only
  exact ⟨funext fun y => out7_apply c t (X0_0 m c t) (iblk m c 1 t) (iblk m c 2 t) (X0_3 m c t) (X0_4 m c t) (X0_5 m c t) (iblk m c 6 t) y,
    funext fun y => out8_apply c t (X0_0 m c t) (iblk m c 1 t) (iblk m c 2 t) (X0_3 m c t) (X0_4 m c t) (X0_5 m c t) (iblk m c 6 t) y,
    fun r d => out9_apply c t (X0_0 m c t) (iblk m c 1 t) (iblk m c 2 t) (X0_3 m c t) (X0_4 m c t) (X0_5 m c t) (iblk m c 6 t) r d⟩

theorem outs7_apply (t : Fin cfg0.N) (r : Fin 512) (k : Fin 3072) (hb : t.val / 32 < 2) (hr : 512 * (t.val % 32) + r.val < 16400) :
    (outsAt0 m c t).1 (ix3 0 r k)
      = Qkv (H m c) (Gn m c) (W m c) (Cos m c) (Sin m c) (ix3 ⟨t.val / 32, hb⟩ ⟨512 * (t.val % 32) + r.val, hr⟩ k) := by
  rw [(outs_eq m c t).1]
  show qkv (prod (X0_0 m c t) (iblk m c 1 t) (iblk m c 2 t) r) (fun j => X0_3 m c t (ix2 r j)) (fun j => X0_4 m c t (ix2 r j))
    (fun j => X0_5 m c t (ix2 r j)) k.val = _
  have hp := funext fun k => prod_apply m c t r k hb hr
  unfold qkv
  rw [hp, roll_eq_rope _ (fun j => Cos m c (ix2 ⟨512 * (t.val % 32) + r.val, hr⟩ j)) (fun j => Sin m c (ix2 ⟨512 * (t.val % 32) + r.val, hr⟩ j)) _ _ _
    (fun j => (X3_apply m c t r j hr).trans (own_apply m c _ j))
    (fun j => (X4_apply m c t r j hr).trans (after_apply m c _ j))
    (fun j => (X5_apply m c t r j hr).trans (before_apply m c _ j))]
  rfl

theorem outs8_apply (t : Fin cfg0.N) (q : Fin 2) (r : Fin 512) (k : Fin 1024) (hb : t.val / 32 < 2) (hr : 512 * (t.val % 32) + r.val < 16400) :
    (outsAt0 m c t).2.1 (ix4 0 q r k)
      = Four (H m c) (Gn m c) (W m c) (Dft m c) (ix4 ⟨t.val / 32, hb⟩ q ⟨512 * (t.val % 32) + r.val, hr⟩ k) := by
  rw [(outs_eq m c t).2.1]
  show four (prod (X0_0 m c t) (iblk m c 1 t) (iblk m c 2 t) r) (fun x j => iblk m c 6 t (ix2 x j)) q k.val = _
  have hp := funext fun k => prod_apply m c t r k hb hr
  rw [hp]
  exact congrArg (fun w => four _ w q k.val) (funext fun x => funext fun j => blk6_apply m c t x j)

theorem outs9_apply (t : Fin cfg0.N) (r : Fin 512) (d : Fin 2048) (hb : t.val / 32 < 2) (hr : 512 * (t.val % 32) + r.val < 16400) :
    (outsAt0 m c t).2.2 (ix3 0 r d) = Norm (H m c) (Gn m c) (ix3 ⟨t.val / 32, hb⟩ ⟨512 * (t.val % 32) + r.val, hr⟩ d) := by
  rw [(outs_eq m c t).2.2]
  simp only [X0_apply m c t r _ hb hr, blk1_apply m c t]
  rfl

/-! ## The arrays the call leaves -/

/-- No write-back is cut. -/
theorem xsize_7 : ∀ t : Fin cfg0.N, ∀ a, (cfg0.win 7).xsize (cfg0.grid.coords t) a = (cfg0.win 7).size a := by decide +kernel
theorem xsize_8 : ∀ t : Fin cfg0.N, ∀ a, (cfg0.win 8).xsize (cfg0.grid.coords t) a = (cfg0.win 8).size a := by decide +kernel
theorem xsize_9 : ∀ t : Fin cfg0.N, ∀ a, (cfg0.win 9).xsize (cfg0.grid.coords t) a = (cfg0.win 9).size a := by decide +kernel

/-- The point of a row. -/
def point (b : Fin 2) (r : ℕ) (h : r < 16384) : Fin cfg0.N := ⟨32 * b.val + r / 512, lt_of_lt_of_eq (by omega) N_0.symm⟩

set_option maxHeartbeats 1000000 in
theorem flushed7_eq (t : Fin cfg0.N) (y : ((cfg0.win 7).xblock (cfg0.grid.coords t)).Idx) :
    (dats m 0 c).after 7 t ((cfg0.win 7).xinj (cfg0.grid.coords t) y) = Qkv (H m c) (Gn m c) (W m c) (Cos m c) (Sin m c) (((cfg0.win 7).blk t).view.emb y) := by
  have hN : t.val < 64 := lt_of_lt_of_eq t.isLt N_0
  obtain ⟨-, -, -, -, -, -, -, ⟨e0, e1, e2⟩, -⟩ := idx_facts t
  have hx := xsize_7 t
  have hy0 : (y 0).val < 1 := lt_of_lt_of_eq (y 0).isLt (hx 0)
  have hy1 : (y 1).val < 512 := lt_of_lt_of_eq (y 1).isLt (hx 1)
  have hy2 : (y 2).val < 3072 := lt_of_lt_of_eq (y 2).isLt (hx 2)
  obtain ⟨n0, hn0⟩ : ∃ n, n = (y 0).val := ⟨_, rfl⟩
  obtain ⟨n1, hn1⟩ : ∃ n, n = (y 1).val := ⟨_, rfl⟩
  obtain ⟨n2, hn2⟩ : ∃ n, n = (y 2).val := ⟨_, rfl⟩
  rw [← hn0] at hy0
  rw [← hn1] at hy1
  rw [← hn2] at hy2
  have hi : (((cfg0.win 7).blk t).view.emb y : S2x16400x3072.Idx) = ix3 ⟨t.val / 32, by omega⟩ ⟨512 * (t.val % 32) + n1, by omega⟩ ⟨n2, hy2⟩ := by
    refine eq_of_vals3 _ _ _ _ ?_ ?_ ?_
    · show win0_7.index t (0 : Fin 3) * 1 + 1 * (y 0).val = t.val / 32; rw [← hn0]; omega
    · show win0_7.index t (1 : Fin 3) * 512 + 1 * (y 1).val = 512 * (t.val % 32) + n1; rw [← hn1]; omega
    · show win0_7.index t (2 : Fin 3) * 3072 + 1 * (y 2).val = n2; rw [← hn2]; omega
  have hj : ((cfg0.win 7).xinj (cfg0.grid.coords t) y : S1x512x3072.Idx) = ix3 0 ⟨n1, hy1⟩ ⟨n2, hy2⟩ := by
    refine eq_of_vals3 _ _ _ _ ?_ hn1.symm hn2.symm
    show (y 0).val = 0; rw [← hn0]; omega
  rw [after0_7]
  have key := outs7_apply m c t ⟨n1, hy1⟩ ⟨n2, hy2⟩ (by omega) (by show 512 * (t.val % 32) + n1 < 16400; omega)
  generalize Qkv (H m c) (Gn m c) (W m c) (Cos m c) (Sin m c) = G at key ⊢
  refine (congrArg (outsAt0 m c t).1 hj).trans (Eq.trans ?_ (congrArg G hi).symm)
  exact key

theorem covered7 (i : S2x16400x3072.Idx) (h : (i 1).val < 16384) : ∃ t : Fin cfg0.N, i ∈ ((cfg0.win 7).blk t).view.set := by
  have h0 : (i 0).val < 2 := (i 0).isLt
  have h2 : (i 2).val < 3072 := (i 2).isLt
  let t : Fin cfg0.N := point (i 0) (i 1).val h
  have ht : t.val = 32 * (i 0).val + (i 1).val / 512 := rfl
  obtain ⟨-, -, -, -, -, -, -, ⟨e0, e1, e2⟩, -⟩ := idx_facts t
  refine ⟨t, ?_⟩
  show i ∈ ((View.whole main_v7_0).slice (win0_7.rect t)).set
  rw [View.set_slice_whole, Rect.mem_set_unit]
  refine fun a => ?_
  match a with
  | ⟨0, _⟩ =>
    have x0 : win0_7.xsize (grid0.coords t) (0 : Fin 3) = 1 := xsize_7 t 0
    show win0_7.index t (0 : Fin 3) * 1 ≤ (i 0).val ∧ (i 0).val < win0_7.index t (0 : Fin 3) * 1 + win0_7.xsize (grid0.coords t) (0 : Fin 3)
    omega
  | ⟨1, _⟩ =>
    have x1 : win0_7.xsize (grid0.coords t) (1 : Fin 3) = 512 := xsize_7 t 1
    show win0_7.index t (1 : Fin 3) * 512 ≤ (i 1).val ∧ (i 1).val < win0_7.index t (1 : Fin 3) * 512 + win0_7.xsize (grid0.coords t) (1 : Fin 3)
    omega
  | ⟨2, _⟩ =>
    have x2 : win0_7.xsize (grid0.coords t) (2 : Fin 3) = 3072 := xsize_7 t 2
    show win0_7.index t (2 : Fin 3) * 3072 ≤ (i 2).val ∧ (i 2).val < win0_7.index t (2 : Fin 3) * 3072 + win0_7.xsize (grid0.coords t) (2 : Fin 3)
    omega

theorem arr7_apply (i : S2x16400x3072.Idx) (h : (i 1).val < 16384) :
    ((dats m 0 c).arrAt 7 cfg0.N : Vec Ideal S2x16400x3072 .bf16) i = Qkv (H m c) (Gn m c) (W m c) (Cos m c) (Sin m c) i := by
  obtain ⟨t, hi⟩ := covered7 i h
  exact (dats m 0 c).arrAt_forall_of_flushed 7 (fun i v => v = Qkv (H m c) (Gn m c) (W m c) (Cos m c) (Sin m c) i) (fun t _ y => flushed7_eq m c t y) cfg0.N t i t.isLt
    (flush0_7 t) hi

theorem flushed9_eq (t : Fin cfg0.N) (y : ((cfg0.win 9).xblock (cfg0.grid.coords t)).Idx) :
    (dats m 0 c).after 9 t ((cfg0.win 9).xinj (cfg0.grid.coords t) y) = Norm (H m c) (Gn m c) (((cfg0.win 9).blk t).view.emb y) := by
  have hN : t.val < 64 := lt_of_lt_of_eq t.isLt N_0
  obtain ⟨-, -, -, -, -, -, -, -, -, ⟨e0, e1, e2⟩⟩ := idx_facts t
  have hx := xsize_9 t
  have hy0 : (y 0).val < 1 := lt_of_lt_of_eq (y 0).isLt (hx 0)
  have hy1 : (y 1).val < 512 := lt_of_lt_of_eq (y 1).isLt (hx 1)
  have hy2 : (y 2).val < 2048 := lt_of_lt_of_eq (y 2).isLt (hx 2)
  obtain ⟨n0, hn0⟩ : ∃ n, n = (y 0).val := ⟨_, rfl⟩
  obtain ⟨n1, hn1⟩ : ∃ n, n = (y 1).val := ⟨_, rfl⟩
  obtain ⟨n2, hn2⟩ : ∃ n, n = (y 2).val := ⟨_, rfl⟩
  rw [← hn0] at hy0
  rw [← hn1] at hy1
  rw [← hn2] at hy2
  have hi : (((cfg0.win 9).blk t).view.emb y : S2x16400x2048.Idx) = ix3 ⟨t.val / 32, by omega⟩ ⟨512 * (t.val % 32) + n1, by omega⟩ ⟨n2, hy2⟩ := by
    refine eq_of_vals3 _ _ _ _ ?_ ?_ ?_
    · show win0_9.index t (0 : Fin 3) * 1 + 1 * (y 0).val = t.val / 32; rw [← hn0]; omega
    · show win0_9.index t (1 : Fin 3) * 512 + 1 * (y 1).val = 512 * (t.val % 32) + n1; rw [← hn1]; omega
    · show win0_9.index t (2 : Fin 3) * 2048 + 1 * (y 2).val = n2; rw [← hn2]; omega
  have hj : ((cfg0.win 9).xinj (cfg0.grid.coords t) y : S1x512x2048.Idx) = ix3 0 ⟨n1, hy1⟩ ⟨n2, hy2⟩ := by
    refine eq_of_vals3 _ _ _ _ ?_ hn1.symm hn2.symm
    show (y 0).val = 0; rw [← hn0]; omega
  rw [after0_9]
  refine (congrArg (outsAt0 m c t).2.2 hj).trans (Eq.trans ?_ (congrArg (Norm (H m c) (Gn m c)) hi).symm)
  exact outs9_apply m c t ⟨n1, hy1⟩ ⟨n2, hy2⟩ (by omega) (by show 512 * (t.val % 32) + n1 < 16400; omega)

theorem covered9 (i : S2x16400x2048.Idx) (h : (i 1).val < 16384) : ∃ t : Fin cfg0.N, i ∈ ((cfg0.win 9).blk t).view.set := by
  have h0 : (i 0).val < 2 := (i 0).isLt
  have h2 : (i 2).val < 2048 := (i 2).isLt
  let t : Fin cfg0.N := point (i 0) (i 1).val h
  have ht : t.val = 32 * (i 0).val + (i 1).val / 512 := rfl
  obtain ⟨-, -, -, -, -, -, -, -, -, ⟨e0, e1, e2⟩⟩ := idx_facts t
  refine ⟨t, ?_⟩
  show i ∈ ((View.whole main_v7_2).slice (win0_9.rect t)).set
  rw [View.set_slice_whole, Rect.mem_set_unit]
  refine fun a => ?_
  match a with
  | ⟨0, _⟩ =>
    have x0 : win0_9.xsize (grid0.coords t) (0 : Fin 3) = 1 := xsize_9 t 0
    show win0_9.index t (0 : Fin 3) * 1 ≤ (i 0).val ∧ (i 0).val < win0_9.index t (0 : Fin 3) * 1 + win0_9.xsize (grid0.coords t) (0 : Fin 3)
    omega
  | ⟨1, _⟩ =>
    have x1 : win0_9.xsize (grid0.coords t) (1 : Fin 3) = 512 := xsize_9 t 1
    show win0_9.index t (1 : Fin 3) * 512 ≤ (i 1).val ∧ (i 1).val < win0_9.index t (1 : Fin 3) * 512 + win0_9.xsize (grid0.coords t) (1 : Fin 3)
    omega
  | ⟨2, _⟩ =>
    have x2 : win0_9.xsize (grid0.coords t) (2 : Fin 3) = 2048 := xsize_9 t 2
    show win0_9.index t (2 : Fin 3) * 2048 ≤ (i 2).val ∧ (i 2).val < win0_9.index t (2 : Fin 3) * 2048 + win0_9.xsize (grid0.coords t) (2 : Fin 3)
    omega

theorem arr9_apply (i : S2x16400x2048.Idx) (h : (i 1).val < 16384) :
    ((dats m 0 c).arrAt 9 cfg0.N : Vec Ideal S2x16400x2048 .bf16) i = Norm (H m c) (Gn m c) i := by
  obtain ⟨t, hi⟩ := covered9 i h
  exact (dats m 0 c).arrAt_forall_of_flushed 9 (fun i v => v = Norm (H m c) (Gn m c) i) (fun t _ y => flushed9_eq m c t y) cfg0.N t i t.isLt
    (flush0_9 t) hi

theorem flushed8_eq (t : Fin cfg0.N) (y : ((cfg0.win 8).xblock (cfg0.grid.coords t)).Idx) :
    (dats m 0 c).after 8 t ((cfg0.win 8).xinj (cfg0.grid.coords t) y) = Four (H m c) (Gn m c) (W m c) (Dft m c) (((cfg0.win 8).blk t).view.emb y) := by
  have hN : t.val < 64 := lt_of_lt_of_eq t.isLt N_0
  obtain ⟨-, -, -, -, -, -, -, -, ⟨e0, e1, e2, e3⟩, -⟩ := idx_facts t
  have hx := xsize_8 t
  have hy0 : (y 0).val < 1 := lt_of_lt_of_eq (y 0).isLt (hx 0)
  have hy1 : (y 1).val < 2 := lt_of_lt_of_eq (y 1).isLt (hx 1)
  have hy2 : (y 2).val < 512 := lt_of_lt_of_eq (y 2).isLt (hx 2)
  have hy3 : (y 3).val < 1024 := lt_of_lt_of_eq (y 3).isLt (hx 3)
  obtain ⟨n0, hn0⟩ : ∃ n, n = (y 0).val := ⟨_, rfl⟩
  obtain ⟨n1, hn1⟩ : ∃ n, n = (y 1).val := ⟨_, rfl⟩
  obtain ⟨n2, hn2⟩ : ∃ n, n = (y 2).val := ⟨_, rfl⟩
  obtain ⟨n3, hn3⟩ : ∃ n, n = (y 3).val := ⟨_, rfl⟩
  rw [← hn0] at hy0
  rw [← hn1] at hy1
  rw [← hn2] at hy2
  rw [← hn3] at hy3
  have hi : (((cfg0.win 8).blk t).view.emb y : S2x2x16400x1024.Idx)
      = ix4 ⟨t.val / 32, by omega⟩ ⟨n1, hy1⟩ ⟨512 * (t.val % 32) + n2, by omega⟩ ⟨n3, hy3⟩ := by
    refine eq_of_vals4 _ _ _ _ _ ?_ ?_ ?_ ?_
    · show win0_8.index t (0 : Fin 4) * 1 + 1 * (y 0).val = t.val / 32; rw [← hn0]; omega
    · show win0_8.index t (1 : Fin 4) * 2 + 1 * (y 1).val = n1; rw [← hn1]; omega
    · show win0_8.index t (2 : Fin 4) * 512 + 1 * (y 2).val = 512 * (t.val % 32) + n2; rw [← hn2]; omega
    · show win0_8.index t (3 : Fin 4) * 1024 + 1 * (y 3).val = n3; rw [← hn3]; omega
  have hj : ((cfg0.win 8).xinj (cfg0.grid.coords t) y : S1x2x512x1024.Idx) = ix4 0 ⟨n1, hy1⟩ ⟨n2, hy2⟩ ⟨n3, hy3⟩ := by
    refine eq_of_vals4 _ _ _ _ _ ?_ hn1.symm hn2.symm hn3.symm
    show (y 0).val = 0; rw [← hn0]; omega
  rw [after0_8]
  refine (congrArg (outsAt0 m c t).2.1 hj).trans (Eq.trans ?_ (congrArg (Four (H m c) (Gn m c) (W m c) (Dft m c)) hi).symm)
  exact outs8_apply m c t ⟨n1, hy1⟩ ⟨n2, hy2⟩ ⟨n3, hy3⟩ (by omega) (by show 512 * (t.val % 32) + n2 < 16400; omega)

theorem covered8 (i : S2x2x16400x1024.Idx) (h : (i 2).val < 16384) : ∃ t : Fin cfg0.N, i ∈ ((cfg0.win 8).blk t).view.set := by
  have h0 : (i 0).val < 2 := (i 0).isLt
  have h1 : (i 1).val < 2 := (i 1).isLt
  have h3 : (i 3).val < 1024 := (i 3).isLt
  let t : Fin cfg0.N := point (i 0) (i 2).val h
  have ht : t.val = 32 * (i 0).val + (i 2).val / 512 := rfl
  obtain ⟨-, -, -, -, -, -, -, -, ⟨e0, e1, e2, e3⟩, -⟩ := idx_facts t
  refine ⟨t, ?_⟩
  show i ∈ ((View.whole main_v7_1).slice (win0_8.rect t)).set
  rw [View.set_slice_whole, Rect.mem_set_unit]
  refine fun a => ?_
  match a with
  | ⟨0, _⟩ =>
    have x0 : win0_8.xsize (grid0.coords t) (0 : Fin 4) = 1 := xsize_8 t 0
    show win0_8.index t (0 : Fin 4) * 1 ≤ (i 0).val ∧ (i 0).val < win0_8.index t (0 : Fin 4) * 1 + win0_8.xsize (grid0.coords t) (0 : Fin 4)
    omega
  | ⟨1, _⟩ =>
    have x1 : win0_8.xsize (grid0.coords t) (1 : Fin 4) = 2 := xsize_8 t 1
    show win0_8.index t (1 : Fin 4) * 2 ≤ (i 1).val ∧ (i 1).val < win0_8.index t (1 : Fin 4) * 2 + win0_8.xsize (grid0.coords t) (1 : Fin 4)
    omega
  | ⟨2, _⟩ =>
    have x2 : win0_8.xsize (grid0.coords t) (2 : Fin 4) = 512 := xsize_8 t 2
    show win0_8.index t (2 : Fin 4) * 512 ≤ (i 2).val ∧ (i 2).val < win0_8.index t (2 : Fin 4) * 512 + win0_8.xsize (grid0.coords t) (2 : Fin 4)
    omega
  | ⟨3, _⟩ =>
    have x3 : win0_8.xsize (grid0.coords t) (3 : Fin 4) = 1024 := xsize_8 t 3
    show win0_8.index t (3 : Fin 4) * 1024 ≤ (i 3).val ∧ (i 3).val < win0_8.index t (3 : Fin 4) * 1024 + win0_8.xsize (grid0.coords t) (3 : Fin 4)
    omega

theorem arr8_apply (i : S2x2x16400x1024.Idx) (h : (i 2).val < 16384) :
    ((dats m 0 c).arrAt 8 cfg0.N : Vec Ideal S2x2x16400x1024 .bf16) i = Four (H m c) (Gn m c) (W m c) (Dft m c) i := by
  obtain ⟨t, hi⟩ := covered8 i h
  exact (dats m 0 c).arrAt_forall_of_flushed 8 (fun i v => v = Four (H m c) (Gn m c) (W m c) (Dft m c) i) (fun t _ y => flushed8_eq m c t y) cfg0.N t i t.isLt
    (flush0_8 t) hi

end Cert.Kernel5Ideal.Proj

end
-- ==== Proof.ProjClaim.lean ====
/-
  The mixers' input projection, its value claim: the reference's stages read entry by entry, and the three results equal on the rows the
  kernel writes.
-/
module

public import proofs.«01_k».proof.Proof.ProjArray
public import proofs.«01_k».proof.Proof.Gen.Reference5Ideal.Read
public import proofs.«01_k».proof.Proof.Gen.On_projected_rows
public import proofs.«01_k».proof.Defs
public import Idealize.ShloMosaic.Lib.WordCmp

@[expose] public section

noncomputable section

namespace Cert.Reference5Ideal.Read

open Cert.Reference5Ideal Cert.Reference5Ideal.Gen Idealize.ShloMosaic Idealize.ShloMosaic.TcCoe Idealize.SL.Sem
open Cert.Kernel5Ideal.Proj (norm col rope four normed projected Qkv Four Norm)

variable (x0 : (⟨S2x16400x2048, .f32⟩ : BufTy).Contents (Elt Ideal)) (x1 : (⟨S1x2048, .f32⟩ : BufTy).Contents (Elt Ideal))
  (x2 : (⟨S2x2048x4096, .bf16⟩ : BufTy).Contents (Elt Ideal)) (x3 x4 : (⟨S16400x16, .f32⟩ : BufTy).Contents (Elt Ideal))
  (x5 : (⟨S128x256, .bf16⟩ : BufTy).Contents (Elt Ideal))

theorem norm_apply (b : Fin 2) (t : Fin 16400) (d : Fin 2048) : val_main_v15 (F := Ideal) x0 x1 (ix3 b t d) = normed x0 x1 b t d := by
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  rfl

theorem proj_apply (b : Fin 2) (t : Fin 16400) (k : Fin 4096) : val_main_v18 (F := Ideal) x0 x1 x2 (ix3 b t k) = projected x0 x1 x2 b t k.val := by
  pointwise [val_main_v18, val_main_v17, val_main_v16, val_main_v0]
  unfold projected col
  rw [dif_pos k.isLt]
  simp only [norm_apply]

/-- The rotated head, cut where the reference cuts it: `n` its first column. -/
theorem rope_lanes (y : ℕ → EReal) (cos sin : Fin 16 → EReal) (n : ℕ) (hn : n % 128 = 0) (j : Fin 128) :
    (if h : j.val < 32 then
      if h' : j.val < 16 then y (n + j.val) * cos ⟨j.val, h'⟩ - y (n + (16 + j.val)) * sin ⟨j.val, h'⟩
      else y (n + (16 + (j.val - 16))) * cos ⟨j.val - 16, by omega⟩ + y (n + (j.val - 16)) * sin ⟨j.val - 16, by omega⟩
    else y (n + (32 + (j.val - 32)))) = rope y cos sin (n + j.val) := by
  have hm : (n + j.val) % 128 = j.val := by omega
  unfold rope
  simp only [hm]
  by_cases h : j.val < 32
  · rw [dif_pos h]
    by_cases h' : j.val < 16
    · rw [dif_pos h', dif_pos h', show n + (16 + j.val) = n + j.val + 16 by omega]
    · rw [dif_neg h', dif_neg h', dif_pos h, show n + (16 + (j.val - 16)) = n + j.val by omega, show n + (j.val - 16) = n + j.val - 16 by omega]
  · rw [dif_neg h, dif_neg (by omega), dif_neg h, show n + (32 + (j.val - 32)) = n + j.val by omega]

theorem queries_apply (b : Fin 2) (t : Fin 16400) (h : Fin 16) (j : Fin 128) :
    val_main_v40 (F := Ideal) x0 x1 x2 x3 x4 (ix4 b t h j)
      = rope (projected x0 x1 x2 b t) (fun j => x3 (ix2 t j)) (fun j => x4 (ix2 t j)) (h.val * 128 + j.val) := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v19]
  simp only [proj_apply]
  exact rope_lanes _ (fun j => x3 (ix2 t j)) (fun j => x4 (ix2 t j)) (h.val * 128) (by omega) j

theorem keys_apply (b : Fin 2) (t : Fin 16400) (h : Fin 4) (j : Fin 128) :
    val_main_v58 (F := Ideal) x0 x1 x2 x3 x4 (ix4 b t h j)
      = rope (projected x0 x1 x2 b t) (fun j => x3 (ix2 t j)) (fun j => x4 (ix2 t j)) (2048 + h.val * 128 + j.val) := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v20]
  simp only [proj_apply]
  refine Eq.trans ?_ (rope_lanes _ (fun j => x3 (ix2 t j)) (fun j => x4 (ix2 t j)) (2048 + h.val * 128) (by omega) j)
  simp only [Nat.add_assoc]

theorem qkv_apply (b : Fin 2) (t : Fin 16400) (k : Fin 3072) :
    val_main_v72 (F := Ideal) x0 x1 x2 x3 x4 (ix3 b t k) = Qkv x0 x1 x2 x3 x4 (ix3 b t k) := by
  pointwise [val_main_v72, val_main_v61, val_main_v59, val_main_v60, val_main_v21]
  simp only [queries_apply, keys_apply, proj_apply]
  show _ = if k.val < 2560 then rope (projected x0 x1 x2 b t) (fun j => x3 (ix2 t j)) (fun j => x4 (ix2 t j)) k.val else projected x0 x1 x2 b t k.val
  by_cases h : k.val < 2048
  · rw [dif_pos h, if_pos (by omega), show k.val / 128 * 128 + k.val % 128 = k.val by omega]
  · rw [dif_neg h]
    by_cases h' : k.val < 2560
    · rw [dif_pos (by omega), if_pos h', show 2048 + (k.val - 2048) / 128 * 128 + (k.val - 2048) % 128 = k.val by omega]
    · rw [dif_neg (by omega), if_neg h', show 2560 + (k.val - 2048 - 512) = k.val by omega]

theorem four_apply (b : Fin 2) (q : Fin 2) (t : Fin 16400) (k : Fin 1024) :
    val_main_v73 (F := Ideal) x0 x1 x2 x5 (ix4 b q t k) = Four x0 x1 x2 x5 (ix4 b q t k) := by
  pointwise [val_main_v73, val_main_v71, val_main_v70, val_main_v69, val_main_v68, val_main_v67, val_main_v66, val_main_v65, val_main_v64, val_main_v63, val_main_v62, val_main_v22, val_main_v1]
  simp only [proj_apply]
  show _ = four (projected x0 x1 x2 b t) (fun x j => x5 (ix2 x j)) q k.val
  unfold four
  by_cases h : q.val < 1
  · obtain rfl : q = 0 := by omega
    rw [dif_pos h]
    refine Finset.sum_congr rfl fun x _ => ?_
    simp only [Nat.add_assoc, Fin.val_zero, Nat.mul_zero, Nat.zero_add]
  · obtain rfl : q = 1 := by omega
    rw [dif_neg h]
    refine Finset.sum_congr rfl fun x _ => ?_
    simp only [Nat.add_assoc, Fin.val_one, Nat.mul_one]

/-! The reference's results, whole. -/

theorem qkv_eq : val_main_v72 (F := Ideal) x0 x1 x2 x3 x4 = Qkv x0 x1 x2 x3 x4 := by
  funext i
  obtain ⟨b, t, k, rfl⟩ : ∃ (b : Fin 2) (t : Fin 16400) (k : Fin 3072), i = ix3 b t k := ⟨i 0, i 1, i 2, by funext a; fin_cases a <;> rfl⟩
  exact qkv_apply x0 x1 x2 x3 x4 b t k

theorem four_eq : val_main_v73 (F := Ideal) x0 x1 x2 x5 = Four x0 x1 x2 x5 := by
  funext i
  obtain ⟨b, q, t, k, rfl⟩ : ∃ (b : Fin 2) (q : Fin 2) (t : Fin 16400) (k : Fin 1024), i = ix4 b q t k :=
    ⟨i 0, i 1, i 2, i 3, by funext a; fin_cases a <;> rfl⟩
  exact four_apply x0 x1 x2 x5 b q t k

theorem norm_eq : val_main_v74 (F := Ideal) x0 x1 = Norm x0 x1 := by
  funext i
  obtain ⟨b, t, d, rfl⟩ : ∃ (b : Fin 2) (t : Fin 16400) (d : Fin 2048), i = ix3 b t d := ⟨i 0, i 1, i 2, by funext a; fin_cases a <;> rfl⟩
  exact norm_apply x0 x1 b t d

end Cert.Reference5Ideal.Read

namespace Cert

open Idealize.ShloMosaic Idealize.ShloMosaic.TcCoe Idealize.SL.Sem

/-- A row number whose word is below 16384 is below it. -/
theorem row_of_word (n : ℕ) (hn : n < 16400) (h : IntOp.cmpi .slt (BitVec.ofNat 32 n) (BitVec.ofNat 32 16384) = 1#1) : n < 16384 := by
  rw [WordCmp.cmpi_slt_ofNat (by norm_num; omega) (by norm_num)] at h
  by_contra hc
  rw [decide_eq_false hc] at h
  exact absurd h (by decide)

/-- The masks' indices are the rows before the appended ones. -/
theorem projected_rows_of_mask {a0 a1 a2 a3 a4 a5} :
    (∀ i : (⟨3, ![2, 16400, 3072]⟩ : Shape).Idx, (Cert.On_projected_rows.fn (F := Ideal) a0 a1 a2 a3 a4 a5).1 i = 1#1 → (i 1).val < 16384)
    ∧ (∀ i : (⟨4, ![2, 2, 16400, 1024]⟩ : Shape).Idx, (Cert.On_projected_rows.fn (F := Ideal) a0 a1 a2 a3 a4 a5).2.1 i = 1#1 → (i 2).val < 16384)
    ∧ ∀ i : (⟨3, ![2, 16400, 2048]⟩ : Shape).Idx, (Cert.On_projected_rows.fn (F := Ideal) a0 a1 a2 a3 a4 a5).2.2 i = 1#1 → (i 1).val < 16384 :=
  ⟨fun i h => row_of_word _ (i 1).isLt h, fun i h => row_of_word _ (i 2).isLt h, fun i h => row_of_word _ (i 1).isLt h⟩

open Cert.Kernel5Ideal.Proj in
/-- The call and the reference leave the same three arrays at the rows the call writes. -/
theorem proj_algebraic : algebraic_Kernel5Ideal_Reference5Ideal_on_projected_rows (hKernel5Ideal := Cert.Kernel5Ideal.Gen.facts)
    (hReference5Ideal := Cert.Reference5Ideal.Gen.facts) (hOn_projected_rows := Cert.On_projected_rows.Gen.facts) := by
  intro m g m' g' _ hagree
  refine ⟨fun c => Qkv (H m c) (Gn m c) (W m c) (Cos m c) (Sin m c), fun c => Four (H m c) (Gn m c) (W m c) (Dft m c),
    fun c => Norm (H m c) (Gn m c), ?_, ?_⟩
  · refine (θ_run _ _ _).mono (fun r h c => ?_) (Cert.Kernel5Ideal.Value.run_blocks m g)
    obtain ⟨h7, h8, h9, hargs⟩ := h c
    exact ⟨fun i hi => (congrFun h7 i).trans (arr7_apply m c i (projected_rows_of_mask.1 i hi)),
      fun i hi => (congrFun h8 i).trans (arr8_apply m c i (projected_rows_of_mask.2.1 i hi)),
      fun i hi => (congrFun h9 i).trans (arr9_apply m c i (projected_rows_of_mask.2.2 i hi)), hargs⟩
  · refine (θ_run _ _ _).mono (fun r h c => ?_) (Cert.Reference5Ideal.Value.run m' g')
    obtain ⟨h7, h8, h9, hargs⟩ := h c
    obtain ⟨e0, e1, e2, e3, e4, e5⟩ := hagree c
    refine ⟨fun i _ => congrFun (h7.trans ?_) i, fun i _ => congrFun (h8.trans ?_) i, fun i _ => congrFun (h9.trans ?_) i, hargs⟩
    · rw [Cert.Reference5Ideal.Read.val_main_v72_eq, e0, e1, e2, e3, e4]
      exact Cert.Reference5Ideal.Read.qkv_eq _ _ _ _ _
    · rw [Cert.Reference5Ideal.Read.val_main_v73_eq, e0, e1, e2, e5]
      exact Cert.Reference5Ideal.Read.four_eq _ _ _ _
    · rw [Cert.Reference5Ideal.Read.val_main_v74_eq, e0, e1]
      exact Cert.Reference5Ideal.Read.norm_eq _ _

end Cert

end
-- ==== Proof.lean ====
/-
  The claims about the attention (frames and the named constants) and about the feed-forward part, with the final norm and without, the
  mixers' output projection and their input projection: frames of the kernel, its idealization and the reference, and the equality of what
  the two compute over the extended reals.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnClaim
public import proofs.«01_k».proof.Proof.AttnFrame
public import proofs.«01_k».proof.Proof.AttnFrameIdeal
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.On_written_rows
public import proofs.«01_k».proof.Proof.FfnMainRun
public import proofs.«01_k».proof.Proof.FfnMainFrame
public import proofs.«01_k».proof.Proof.FfnMainClaim
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.On_mixed_rows
public import proofs.«01_k».proof.Proof.MixClaim
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.On_projected_rows
public import proofs.«01_k».proof.Proof.ProjClaim
public import Idealize.ShloMosaic.Lib.Quiescent

@[expose] public section

noncomputable section

namespace Cert.Proof

open Idealize.ShloMosaic Idealize.SL.Sem

/-- The reference leaves its arguments and declares no semaphore. -/
theorem quiescent_reference2 : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)

/-- The same of the attention's reference. -/
theorem quiescent_reference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- The same of the reference of the feed-forward part without the final norm. -/
theorem quiescent_reference3 : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run m ρ)

/-- The same of the output projection's reference. -/
theorem quiescent_reference4 : Cert.quiescent_Reference4Ideal (hReference4Ideal := Cert.Reference4Ideal.Gen.facts) := fun m ρ _ =>
  (θ_run _ _ _).mono (fun r h => ⟨fun c => (h c).2, sem_eq_zero_of_no_sems rfl r.2⟩) (Cert.Reference4Ideal.Value.run m ρ)

/-- The same of the input projection's reference. -/
theorem quiescent_reference5 : Cert.quiescent_Reference5Ideal (hReference5Ideal := Cert.Reference5Ideal.Gen.facts) := fun m ρ _ =>
  (θ_run _ _ _).mono (fun r h => ⟨fun c => (h c).2.2.2, sem_eq_zero_of_no_sems rfl r.2⟩) (Cert.Reference5Ideal.Value.run m ρ)

/-- The three named constants of the attention are the printed ones' intended values. -/
theorem preserves_attention : Cert.preserves_Kernel_KernelIdeal :=
  ⟨IdealRules.named_const.statement Cert.KernelIdeal.κ "inv_scale" .f32 0x413504F3#32 _ rfl,
    IdealRules.named_const.statement Cert.KernelIdeal.κ "mask" .f32 0xF149F2CA#32 _ rfl,
    IdealRules.named_const.statement Cert.KernelIdeal.κ "scale_log2e" .f32 0x3E0293EE#32 _ rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.On_written_rows.Gen.facts, Cert.On_mixed_rows.Gen.facts, Cert.On_projected_rows.Gen.facts,
  fun m ρ _ => Cert.Kernel.Attn.frame m ρ, fun m ρ _ => Cert.KernelIdeal.Attn.frame m ρ, quiescent_reference,
  fun m ρ _ => Cert.Kernel2.Gen.frame m ρ, fun m ρ _ => Cert.Kernel2Ideal.Gen.frame m ρ, quiescent_reference2,
  fun m ρ _ => Cert.Kernel3.Ffn.frame m ρ, fun m ρ _ => Cert.Kernel3Ideal.Ffn.frame m ρ, quiescent_reference3,
  fun m ρ _ => Cert.Kernel4.Gen.frame m ρ, fun m ρ _ => Cert.Kernel4Ideal.Gen.frame m ρ, quiescent_reference4,
  fun m ρ _ => Cert.Kernel5.Gen.frame m ρ, fun m ρ _ => Cert.Kernel5Ideal.Gen.frame m ρ, quiescent_reference5,
  preserves_attention, trivial, Cert.ffn_algebraic, trivial, Cert.ffn_main_algebraic, trivial, Cert.mix_algebraic, trivial,
  Cert.proj_algebraic⟩

end Cert.Proof

end
